-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_crf_inputs [hPre_crf_inputs : Cert.Pre_crf_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_crf_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_crf_inputs [hPre_crf_inputs : Cert.Pre_crf_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_crf_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_crf_inputs [hKernelIdeal : Cert.KernelIdeal.Facts] [hPre_crf_inputs : Cert.Pre_crf_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_crf_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_crf_inputs [hReferenceIdeal : Cert.ReferenceIdeal.Facts] [hPre_crf_inputs : Cert.Pre_crf_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_crf_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_crf_inputs [hKernelIdeal : Cert.KernelIdeal.Facts] [hReferenceIdeal : Cert.ReferenceIdeal.Facts] [hPre_crf_inputs : Cert.Pre_crf_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_crf_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_crf_inputs : Cert.Pre_crf_inputs.Facts),
    quiescent_Kernel (hKernel := hKernel)
    ∧ quiescent_KernelIdeal (hKernelIdeal := hKernelIdeal)
    ∧ quiescent_KernelIdeal_pre_crf_inputs (hKernelIdeal := hKernelIdeal) (hPre_crf_inputs := hPre_crf_inputs)
    ∧ quiescent_ReferenceIdeal (hReferenceIdeal := hReferenceIdeal)
    ∧ quiescent_ReferenceIdeal_pre_crf_inputs (hReferenceIdeal := hReferenceIdeal) (hPre_crf_inputs := hPre_crf_inputs)
    ∧ preserves_Kernel_KernelIdeal
    ∧ algebraic_KernelIdeal_ReferenceIdeal_pre_crf_inputs (hKernelIdeal := hKernelIdeal) (hReferenceIdeal := hReferenceIdeal) (hPre_crf_inputs := hPre_crf_inputs)
-- ==== Pre_crf_inputs.lean ====
abbrev S128x512x50 : Shape := ⟨3, ![128, 512, 50]⟩
abbrev S128x512 : Shape := ⟨2, ![128, 512]⟩
abbrev S50x50 : Shape := ⟨2, ![50, 50]⟩
abbrev S_ : Shape := ⟨0, ![]⟩

class Facts : Prop where
  bcast_S_S50x50 : S_.BroadcastsInDim S50x50 (![] : Fin 0 → Fin S50x50.rank)
  reducesTo_S128x512_S_d0_1 : S128x512.ReducesTo [0, 1] S_
  h_S_ : 0 < S_.numel
  reducesTo_S50x50_S_d0_1 : S50x50.ReducesTo [0, 1] S_
  bcast_S_S128x512x50 : S_.BroadcastsInDim S128x512x50 (![] : Fin 0 → Fin S128x512x50.rank)
  reducesTo_S128x512x50_S_d0_1_2 : S128x512x50.ReducesTo [0, 1, 2] S_

variable [Facts]

def fn_where {F : FTy → Type} [FloatOps F] (arg0 : IVec S50x50 1) (arg1 : FVec F S_ .f32) (arg2 : FVec F S_ .f32) : FVec F S50x50 .f32 :=
  let v0 : FVec F S50x50 .f32 := broadcastInDim S50x50 ![] bcast_S_S50x50 arg1
  let v1 : FVec F S50x50 .f32 := broadcastInDim S50x50 ![] bcast_S_S50x50 arg2
  let v2 : FVec F S50x50 .f32 := select arg0 v0 v1
  v2

def fn_part1 {F : FTy → Type} [FloatOps F] (main_v12 : IVec S_ 1) (main_v15 : IVec S128x512x50 1) (main_c_5 : IVec S_ 1) : IVec S_ 1 :=
  let main_v16 : IVec S_ 1 := (fun x v => Host.reduce IntOp.andi x v reducesTo_S128x512x50_S_d0_1_2 h_S_) main_v15 main_c_5
  let main_v17 : IVec S_ 1 := andi main_v12 main_v16
  main_v17

def fn {F : FTy → Type} [FloatOps F] (main_arg0 : FVec F S128x512x50 .f32) (main_arg1 : IVec S128x512 1) (main_arg2 : FVec F S50x50 .f32) : IVec S_ 1 :=
  let main_v0 : IVec S50x50 32 := iotaInDim S50x50 32 0
  let main_v1 : IVec S50x50 32 := iotaInDim S50x50 32 1
  let main_c : IVec S_ 32 := constantI S_ 32 49#32
  let main_v2 : IVec S50x50 32 := broadcastInDim S50x50 ![] bcast_S_S50x50 main_c
  let main_v3 : IVec S50x50 1 := cmpi .eq main_v0 main_v2
  let main_c_0 : IVec S_ 32 := constantI S_ 32 48#32
  let main_v4 : IVec S50x50 32 := broadcastInDim S50x50 ![] bcast_S_S50x50 main_c_0
  let main_v5 : IVec S50x50 1 := cmpi .eq main_v1 main_v4
  let main_v6 : IVec S50x50 1 := ori main_v3 main_v5
  let main_c_1 : IVec S_ 1 := constantI S_ 1 1#1
  let main_v7 : IVec S_ 1 := (fun x v => Host.reduce IntOp.andi x v reducesTo_S128x512_S_d0_1 h_S_) main_arg1 main_c_1
  let main_cst : FVec F S_ .f32 := constant S_ .f32 0xC61C4000#32
  let main_cst_2 : FVec F S_ .f32 := constant S_ .f32 0x00000000#32
  let main_v8 : FVec F S50x50 .f32 := fn_where (F := F) main_v6 main_cst main_cst_2
  let main_v9 : FVec F S50x50 .f32 := id main_v8
  let main_v10 : IVec S50x50 1 := cmpf .oeq main_arg2 main_v9
  let main_c_3 : IVec S_ 1 := constantI S_ 1 1#1
  let main_v11 : IVec S_ 1 := (fun x v => Host.reduce IntOp.andi x v reducesTo_S50x50_S_d0_1 h_S_) main_v10 main_c_3
  let main_v12 : IVec S_ 1 := andi main_v7 main_v11
  let main_v13 : FVec F S128x512x50 .f32 := Host.absf main_arg0
  let main_cst_4 : FVec F S_ .f32 := constant S_ .f32 0x447A0000#32
  let main_v14 : FVec F S128x512x50 .f32 := broadcastInDim S128x512x50 ![] bcast_S_S128x512x50 main_cst_4
  let main_v15 : IVec S128x512x50 1 := cmpf .ole main_v13 main_v14
  let main_c_5 : IVec S_ 1 := constantI S_ 1 1#1
  fn_part1 (F := F) main_v12 main_v15 main_c_5
-- ==== Kernel.lean ====
abbrev S128x512x50 : Shape := ⟨3, ![128, 512, 50]⟩
abbrev S128x512 : Shape := ⟨2, ![128, 512]⟩
abbrev S50x50 : Shape := ⟨2, ![50, 50]⟩
abbrev S128x512x48 : Shape := ⟨3, ![128, 512, 48]⟩
abbrev S512x48x128 : Shape := ⟨3, ![512, 48, 128]⟩
abbrev S512x1x128 : Shape := ⟨3, ![512, 1, 128]⟩
abbrev S513x1x128 : Shape := ⟨3, ![513, 1, 128]⟩
abbrev S48x128 : Shape := ⟨2, ![48, 128]⟩
abbrev S1x128 : Shape := ⟨2, ![1, 128]⟩
abbrev S1x1x128 : Shape := ⟨3, ![1, 1, 128]⟩
abbrev S1x48x128 : Shape := ⟨3, ![1, 48, 128]⟩
abbrev S128 : Shape := ⟨1, ![128]⟩
abbrev S512x128 : Shape := ⟨2, ![512, 128]⟩

abbrev nBuf : Space → Nat
  | .hbm => 8
  | .vmem => 3
  | .smem => 0
  | _ => 0

abbrev bufTy : (tb : Table) → Fin (tcTables nBuf tb) → BufTy
  | .hbm, ⟨0, _⟩ => ⟨S128x512x50, .f32⟩
  | .hbm, ⟨1, _⟩ => ⟨S128x512, .i1⟩
  | .hbm, ⟨2, _⟩ => ⟨S50x50, .f32⟩
  | .hbm, ⟨3, _⟩ => ⟨S128x512x48, .f32⟩
  | .hbm, ⟨4, _⟩ => ⟨S512x48x128, .f32⟩
  | .hbm, ⟨5, _⟩ => ⟨S512x1x128, .i32⟩
  | .hbm, ⟨6, _⟩ => ⟨S512x128, .i32⟩
  | .hbm, ⟨7, _⟩ => ⟨S128x512, .i32⟩
  | .local _ .vmem, ⟨0, _⟩ => ⟨S512x48x128, .f32⟩
  | .local _ .vmem, ⟨1, _⟩ => ⟨S512x1x128, .i32⟩
  | .local _ .vmem, ⟨2, _⟩ => ⟨S513x1x128, .f32⟩
  | _, _ => ⟨S128x512x50, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c128_i32 : BitVec 32 := 128#32
  let v5 : BitVec 32 := Scalar.addi c0_i32 c128_i32
  let c1_i32 : BitVec 32 := 1#32
  ⟨c0_i32, v5, c1_i32⟩
def k0_off1 (k0_t1 : Fin k0_t1_loop.trips) (c0_i32_76 : BitVec 32) : Fin 3 → Nat :=
  let c0_i32 : BitVec 32 := 0#32
  let c1_i32 : BitVec 32 := 1#32
  let arg3 : BitVec 32 := Scf.iv c0_i32 c1_i32 k0_t1
  let c4_i32 : BitVec 32 := 4#32
  let v125 : BitVec 32 := Scalar.muli arg3 c4_i32
  let v126 : BitVec 32 := Scalar.addi v125 c0_i32_76
  let v127 : Index := Scalar.indexCast v126
  let c0_77 : Index := 0#32
  let c0_78 : Index := 0#32
  ![v127.toNat, 0, 0]
def k0_off2 (k0_t1 : Fin k0_t1_loop.trips) (c0_i32_76 : BitVec 32) : Fin 3 → Nat :=
  let c0_i32 : BitVec 32 := 0#32
  let c1_i32 : BitVec 32 := 1#32
  let arg3 : BitVec 32 := Scf.iv c0_i32 c1_i32 k0_t1
  let c4_i32 : BitVec 32 := 4#32
  let v125 : BitVec 32 := Scalar.muli arg3 c4_i32
  let v126 : BitVec 32 := Scalar.addi v125 c0_i32_76
  let v131 : Index := Scalar.indexCast v126
  let c0_79 : Index := 0#32
  let c0_80 : Index := 0#32
  ![v131.toNat, 0, 0]
@[reducible] def k0_t2_loop : Scf.Loop 32 :=
  let c0_i32_16 : BitVec 32 := 0#32
  let c127_i32 : BitVec 32 := 127#32
  let v30 : BitVec 32 := Scalar.addi c0_i32_16 c127_i32
  let c1_i32_17 : BitVec 32 := 1#32
  ⟨c0_i32_16, v30, c1_i32_17⟩
def k0_off3 (k0_t2 : Fin k0_t2_loop.trips) (c0_i32_76 : BitVec 32) : Fin 3 → Nat :=
  let c510_i32 : BitVec 32 := 510#32
  let c0_i32_16 : BitVec 32 := 0#32
  let c1_i32_17 : BitVec 32 := 1#32
  let arg3 : BitVec 32 := Scf.iv c0_i32_16 c1_i32_17 k0_t2
  let c4_i32 : BitVec 32 := 4#32
  let v125 : BitVec 32 := Scalar.muli arg3 c4_i32
  let v126 : BitVec 32 := Scalar.subi c510_i32 v125
  let v127 : BitVec 32 := Scalar.subi v126 c0_i32_76
  let c1_i32_77 : BitVec 32 := 1#32
  let v130 : BitVec 32 := Scalar.addi v127 c1_i32_77
  let v131 : Index := Scalar.indexCast v130
  let c0_78 : Index := 0#32
  let c0_79 : Index := 0#32
  ![v131.toNat, 0, 0]
def k0_off4 (k0_t2 : Fin k0_t2_loop.trips) (c0_i32_76 : BitVec 32) : Fin 3 → Nat :=
  let c510_i32 : BitVec 32 := 510#32
  let c0_i32_16 : BitVec 32 := 0#32
  let c1_i32_17 : BitVec 32 := 1#32
  let arg3 : BitVec 32 := Scf.iv c0_i32_16 c1_i32_17 k0_t2
  let c4_i32 : BitVec 32 := 4#32
  let v125 : BitVec 32 := Scalar.muli arg3 c4_i32
  let v126 : BitVec 32 := Scalar.subi c510_i32 v125
  let v127 : BitVec 32 := Scalar.subi v126 c0_i32_76
  let c1_i32_82 : BitVec 32 := 1#32
  let v138 : BitVec 32 := Scalar.addi v127 c1_i32_82
  let v139 : Index := Scalar.indexCast v138
  let c0_83 : Index := 0#32
  let c0_84 : Index := 0#32
  ![v139.toNat, 0, 0]
def k0_off5 (k0_t2 : Fin k0_t2_loop.trips) (c0_i32_76 : BitVec 32) : Fin 3 → Nat :=
  let c510_i32 : BitVec 32 := 510#32
  let c0_i32_16 : BitVec 32 := 0#32
  let c1_i32_17 : BitVec 32 := 1#32
  let arg3 : BitVec 32 := Scf.iv c0_i32_16 c1_i32_17 k0_t2
  let c4_i32 : BitVec 32 := 4#32
  let v125 : BitVec 32 := Scalar.muli arg3 c4_i32
  let v126 : BitVec 32 := Scalar.subi c510_i32 v125
  let v127 : BitVec 32 := Scalar.subi v126 c0_i32_76
  let v143 : Index := Scalar.indexCast v127
  let c0_85 : Index := 0#32
  let c0_86 : Index := 0#32
  ![v143.toNat, 0, 0]
def k0_off6 (k0_t2 : Fin k0_t2_loop.trips) (c0_i32_76 : BitVec 32) : Fin 3 → Nat :=
  let c510_i32 : BitVec 32 := 510#32
  let c0_i32_16 : BitVec 32 := 0#32
  let c1_i32_17 : BitVec 32 := 1#32
  let arg3 : BitVec 32 := Scf.iv c0_i32_16 c1_i32_17 k0_t2
  let c4_i32 : BitVec 32 := 4#32
  let v125 : BitVec 32 := Scalar.muli arg3 c4_i32
  let v126 : BitVec 32 := Scalar.subi c510_i32 v125
  let v127 : BitVec 32 := Scalar.subi v126 c0_i32_76
  let v146 : Index := Scalar.indexCast v127
  let c0_87 : Index := 0#32
  let c0_88 : Index := 0#32
  ![v146.toNat, 0, 0]
def k0_off7 (k0_t2 : Fin k0_t2_loop.trips) (c0_i32_76 : BitVec 32) : Fin 3 → Nat :=
  let c510_i32 : BitVec 32 := 510#32
  let c0_i32_16 : BitVec 32 := 0#32
  let c1_i32_17 : BitVec 32 := 1#32
  let arg3 : BitVec 32 := Scf.iv c0_i32_16 c1_i32_17 k0_t2
  let c4_i32 : BitVec 32 := 4#32
  let v125 : BitVec 32 := Scalar.muli arg3 c4_i32
  let v126 : BitVec 32 := Scalar.subi c510_i32 v125
  let v127 : BitVec 32 := Scalar.subi v126 c0_i32_76
  let v162 : Index := Scalar.indexCast v127
  let c0_92 : Index := 0#32
  let c0_93 : Index := 0#32
  ![v162.toNat, 0, 0]
abbrev stage0_0 : Fin 1 → Memref sig .tc .vmem S512x48x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S128x512x50 : Shape := ⟨3, ![128, 512, 50]⟩
abbrev S128x512 : Shape := ⟨2, ![128, 512]⟩
abbrev S50x50 : Shape := ⟨2, ![50, 50]⟩
abbrev S_ : Shape := ⟨0, ![]⟩
abbrev S128 : Shape := ⟨1, ![128]⟩
abbrev S512x128x50 : Shape := ⟨3, ![512, 128, 50]⟩
abbrev S512x128 : Shape := ⟨2, ![512, 128]⟩
abbrev S1x128x50 : Shape := ⟨3, ![1, 128, 50]⟩
abbrev S128x50 : Shape := ⟨2, ![128, 50]⟩
abbrev S1x50 : Shape := ⟨2, ![1, 50]⟩
abbrev S50 : Shape := ⟨1, ![50]⟩
abbrev S511x128x50 : Shape := ⟨3, ![511, 128, 50]⟩
abbrev S511x128 : Shape := ⟨2, ![511, 128]⟩
abbrev S1x128 : Shape := ⟨2, ![1, 128]⟩
abbrev S128x1x50 : Shape := ⟨3, ![128, 1, 50]⟩
abbrev S1x50x50 : Shape := ⟨3, ![1, 50, 50]⟩
abbrev S128x50x50 : Shape := ⟨3, ![128, 50, 50]⟩
abbrev S128x50x1 : Shape := ⟨3, ![128, 50, 1]⟩
abbrev S128x1 : Shape := ⟨2, ![128, 1]⟩
abbrev S128x2 : Shape := ⟨2, ![128, 2]⟩

abbrev nBuf : Space → Nat
  | .hbm => 175
  | .vmem => 0
  | .smem => 0
  | _ => 0

abbrev hbmTy0_0 (i : Nat) : BufTy := match i % 128 with
  | 0 => ⟨S128x512x50, .f32⟩
  | 1 => ⟨S128x512, .i1⟩
  | 2 => ⟨S50x50, .f32⟩
  | 3 => ⟨S128x512, .i32⟩
  | 4 => ⟨S_, .i32⟩
  | 5 => ⟨S128, .i32⟩
  | 6 => ⟨S512x128x50, .f32⟩
  | 7 => ⟨S512x128, .i1⟩
  | 8 => ⟨S512x128, .i1⟩
  | 9 => ⟨S1x128x50, .f32⟩
  | 10 => ⟨S128x50, .f32⟩
  | 11 => ⟨S1x50, .f32⟩
  | 12 => ⟨S50, .f32⟩
  | 13 => ⟨S1x50, .f32⟩
  | 14 => ⟨S128x50, .f32⟩
  | 15 => ⟨S128x50, .f32⟩
  | 16 => ⟨S511x128x50, .f32⟩
  | 17 => ⟨S511x128, .i1⟩
  | 18 => ⟨S_, .f32⟩
  | 19 => ⟨S511x128x50, .f32⟩
  | 20 => ⟨S_, .i32⟩
  | 21 => ⟨S511x128x50, .i32⟩
  | 22 => ⟨S_, .i32⟩
  | 23 => ⟨S511x128x50, .f32⟩
  | 24 => ⟨S511x128, .i1⟩
  | 25 => ⟨S50x50, .f32⟩
  | 26 => ⟨S_, .i32⟩
  | 27 => ⟨S128x50, .f32⟩
  | 28 => ⟨S511x128x50, .f32⟩
  | 29 => ⟨S511x128x50, .i32⟩
  | 30 => ⟨S_, .i32⟩
  | 31 => ⟨S_, .i1⟩
  | 32 => ⟨S_, .i32⟩
  | 33 => ⟨S_, .i32⟩
  | 34 => ⟨S1x128x50, .f32⟩
  | 35 => ⟨S128x50, .f32⟩
  | 36 => ⟨S_, .i32⟩
  | 37 => ⟨S1x128, .i1⟩
  | 38 => ⟨S128, .i1⟩
  | 39 => ⟨S128x1x50, .f32⟩
  | 40 => ⟨S1x50x50, .f32⟩
  | 41 => ⟨S128x50x50, .f32⟩
  | 42 => ⟨S128x50x50, .f32⟩
  | 43 => ⟨S128x50x50, .f32⟩
  | 44 => ⟨S128x50x1, .f32⟩
  | 45 => ⟨S128x50x50, .f32⟩
  | 46 => ⟨S128x50x50, .f32⟩
  | 47 => ⟨S128x50x50, .i32⟩
  | 48 => ⟨S_, .f32⟩
  | 49 => ⟨S_, .i32⟩
  | 50 => ⟨S128x50, .f32⟩
  | 51 => ⟨S128x50, .i32⟩
  | 52 => ⟨S128x1, .i1⟩
  | 53 => ⟨S_, .i32⟩
  | 54 => ⟨S_, .i32⟩
  | 55 => ⟨S128x50, .i1⟩
  | 56 => ⟨S128x50, .i32⟩
  | 57 => ⟨S128x50, .i32⟩
  | 58 => ⟨S_, .f32⟩
  | 59 => ⟨S128x50, .f32⟩
  | 60 => ⟨S1x128x50, .f32⟩
  | 61 => ⟨S_, .i32⟩
  | 62 => ⟨S_, .i32⟩
  | 63 => ⟨S511x128x50, .f32⟩
  | 64 => ⟨S1x128x50, .i32⟩
  | 65 => ⟨S_, .i32⟩
  | 66 => ⟨S_, .i32⟩
  | 67 => ⟨S511x128x50, .i32⟩
  | 68 => ⟨S_, .i32⟩
  | 69 => ⟨S_, .i32⟩
  | 70 => ⟨S1x128x50, .f32⟩
  | 71 => ⟨S512x128x50, .f32⟩
  | 72 => ⟨S_, .i32⟩
  | 73 => ⟨S128, .i32⟩
  | 74 => ⟨S128, .i32⟩
  | 75 => ⟨S128, .i32⟩
  | 76 => ⟨S_, .i32⟩
  | 77 => ⟨S128, .i32⟩
  | 78 => ⟨S128, .i1⟩
  | 79 => ⟨S_, .i32⟩
  | 80 => ⟨S128, .i32⟩
  | 81 => ⟨S128, .i32⟩
  | 82 => ⟨S128, .i32⟩
  | 83 => ⟨S_, .i32⟩
  | 84 => ⟨S128, .i32⟩
  | 85 => ⟨S128, .i1⟩
  | 86 => ⟨S_, .i32⟩
  | 87 => ⟨S128, .i32⟩
  | 88 => ⟨S128, .i32⟩
  | 89 => ⟨S128, .i32⟩
  | 90 => ⟨S128x1, .i32⟩
  | 91 => ⟨S128x1, .i32⟩
  | 92 => ⟨S128x2, .i32⟩
  | 93 => ⟨S128x50, .f32⟩
  | 94 => ⟨S128x50x1, .f32⟩
  | 95 => ⟨S1x50x50, .f32⟩
  | 96 => ⟨S128x50x50, .f32⟩
  | 97 => ⟨S128x50x50, .f32⟩
  | 98 => ⟨S128x50x50, .f32⟩
  | 99 => ⟨S128x50x50, .i32⟩
  | 100 => ⟨S_, .f32⟩
  | 101 => ⟨S_, .i32⟩
  | 102 => ⟨S128x50, .f32⟩
  | 103 => ⟨S128x50, .i32⟩
  | 104 => ⟨S128x1, .i32⟩
  | 105 => ⟨S128, .i32⟩
  | 106 => ⟨S_, .i32⟩
  | 107 => ⟨S1x128x50, .i32⟩
  | 108 => ⟨S512x128x50, .i32⟩
  | 109 => ⟨S128, .i32⟩
  | 110 => ⟨S128x1, .i32⟩
  | 111 => ⟨S_, .i32⟩
  | 112 => ⟨S128, .i32⟩
  | 113 => ⟨S128, .i1⟩
  | 114 => ⟨S_, .i32⟩
  | 115 => ⟨S128, .i32⟩
  | 116 => ⟨S128, .i32⟩
  | 117 => ⟨S128, .i32⟩
  | 118 => ⟨S_, .i32⟩
  | 119 => ⟨S128, .i32⟩
  | 120 => ⟨S128, .i1⟩
  | 121 => ⟨S_, .i32⟩
  | 122 => ⟨S128, .i32⟩
  | 123 => ⟨S128, .i32⟩
  | 124 => ⟨S128, .i32⟩
  | 125 => ⟨S128x1, .i32⟩
  | 126 => ⟨S128x1, .i32⟩
  | 127 => ⟨S128x2, .i32⟩
  | _ => ⟨S128x512x50, .f32⟩

abbrev hbmTy0_1 (i : Nat) : BufTy := match i % 128 with
  | 0 => ⟨S128x50, .i32⟩
  | 1 => ⟨S512x128x50, .i32⟩
  | 2 => ⟨S511x128x50, .i32⟩
  | 3 => ⟨S_, .i32⟩
  | 4 => ⟨S511x128, .i32⟩
  | 5 => ⟨S_, .i32⟩
  | 6 => ⟨S511x128x50, .i32⟩
  | 7 => ⟨S_, .i32⟩
  | 8 => ⟨S128, .i32⟩
  | 9 => ⟨S511x128, .i32⟩
  | 10 => ⟨S_, .i32⟩
  | 11 => ⟨S_, .i1⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S1x128x50, .i32⟩
  | 19 => ⟨S128x50, .i32⟩
  | 20 => ⟨S128, .i32⟩
  | 21 => ⟨S_, .i32⟩
  | 22 => ⟨S128, .i32⟩
  | 23 => ⟨S128, .i1⟩
  | 24 => ⟨S_, .i32⟩
  | 25 => ⟨S128, .i32⟩
  | 26 => ⟨S128, .i32⟩
  | 27 => ⟨S128, .i32⟩
  | 28 => ⟨S_, .i32⟩
  | 29 => ⟨S128, .i32⟩
  | 30 => ⟨S128, .i1⟩
  | 31 => ⟨S_, .i32⟩
  | 32 => ⟨S128, .i32⟩
  | 33 => ⟨S128, .i32⟩
  | 34 => ⟨S128, .i32⟩
  | 35 => ⟨S128x1, .i32⟩
  | 36 => ⟨S128x1, .i32⟩
  | 37 => ⟨S128x2, .i32⟩
  | 38 => ⟨S128, .i32⟩
  | 39 => ⟨S1x128, .i32⟩
  | 40 => ⟨S_, .i32⟩
  | 41 => ⟨S511x128, .i32⟩
  | 42 => ⟨S_, .i32⟩
  | 43 => ⟨S_, .i32⟩
  | 44 => ⟨S1x128, .i32⟩
  | 45 => ⟨S512x128, .i32⟩
  | 46 => ⟨S128x512, .i32⟩
  | _ => ⟨S128x512x50, .f32⟩

abbrev hbmTy (i : Nat) : BufTy := match i / 128 with
  | 0 => hbmTy0_0 i
  | 1 => hbmTy0_1 i
  | _ => ⟨S128x512x50, .f32⟩

abbrev bufTy : (tb : Table) → Fin (tcTables nBuf tb) → BufTy
  | .hbm, ⟨i, _⟩ => hbmTy i
  | _, _ => ⟨S128x512x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_c_1 : Ref sig .tc := ⟨.hbm, 22, rfl⟩
abbrev main_v16_0 : Ref sig .tc := ⟨.hbm, 23, rfl⟩
abbrev main_v16_1 : Ref sig .tc := ⟨.hbm, 24, rfl⟩
abbrev main_v16_2 : Ref sig .tc := ⟨.hbm, 25, rfl⟩
abbrev main_v16_3 : Ref sig .tc := ⟨.hbm, 26, rfl⟩
abbrev main_v16_4 : Ref sig .tc := ⟨.hbm, 27, rfl⟩
abbrev main_v16_5 : Ref sig .tc := ⟨.hbm, 28, rfl⟩
abbrev main_v16_6 : Ref sig .tc := ⟨.hbm, 29, rfl⟩
abbrev main_while0c_c_20 : Ref sig .tc := ⟨.hbm, 30, rfl⟩
abbrev main_while0c_v69 : Ref sig .tc := ⟨.hbm, 31, rfl⟩
abbrev main_while0b_call0_c : Ref sig .tc := ⟨.hbm, 32, rfl⟩
abbrev main_while0b_call0_c_0 : Ref sig .tc := ⟨.hbm, 33, rfl⟩
abbrev main_while0b_call0_v0 : Ref sig .tc := ⟨.hbm, 34, rfl⟩
abbrev main_while0b_v69 : Ref sig .tc := ⟨.hbm, 35, rfl⟩
abbrev main_while0b_call1_c : Ref sig .tc := ⟨.hbm, 36, rfl⟩
abbrev main_while0b_call1_v0 : Ref sig .tc := ⟨.hbm, 37, rfl⟩
abbrev main_while0b_v70 : Ref sig .tc := ⟨.hbm, 38, rfl⟩
abbrev main_while0b_v71 : Ref sig .tc := ⟨.hbm, 39, rfl⟩
abbrev main_while0b_v72 : Ref sig .tc := ⟨.hbm, 40, rfl⟩
abbrev main_while0b_v73 : Ref sig .tc := ⟨.hbm, 41, rfl⟩
abbrev main_while0b_v74 : Ref sig .tc := ⟨.hbm, 42, rfl⟩
abbrev main_while0b_v75 : Ref sig .tc := ⟨.hbm, 43, rfl⟩
abbrev main_while0b_v76 : Ref sig .tc := ⟨.hbm, 44, rfl⟩
abbrev main_while0b_v77 : Ref sig .tc := ⟨.hbm, 45, rfl⟩
abbrev main_while0b_v78 : Ref sig .tc := ⟨.hbm, 46, rfl⟩
abbrev main_while0b_call2_v0 : Ref sig .tc := ⟨.hbm, 47, rfl⟩
abbrev main_while0b_call2_cst : Ref sig .tc := ⟨.hbm, 48, rfl⟩
abbrev main_while0b_call2_c : Ref sig .tc := ⟨.hbm, 49, rfl⟩
abbrev main_while0b_call2_v1_0 : Ref sig .tc := ⟨.hbm, 50, rfl⟩
abbrev main_while0b_v79 : Ref sig .tc := ⟨.hbm, 51, rfl⟩
abbrev main_while0b_v80 : Ref sig .tc := ⟨.hbm, 52, rfl⟩
abbrev main_while0b_c_20 : Ref sig .tc := ⟨.hbm, 53, rfl⟩
abbrev main_while0b_call3_v0 : Ref sig .tc := ⟨.hbm, 54, rfl⟩
abbrev main_while0b_call3_v1 : Ref sig .tc := ⟨.hbm, 55, rfl⟩
abbrev main_while0b_call3_v2 : Ref sig .tc := ⟨.hbm, 56, rfl⟩
abbrev main_while0b_v81 : Ref sig .tc := ⟨.hbm, 57, rfl⟩
abbrev main_while0b_cst_21 : Ref sig .tc := ⟨.hbm, 58, rfl⟩
abbrev main_while0b_v82 : Ref sig .tc := ⟨.hbm, 59, rfl⟩
abbrev main_while0b_call4_v0 : Ref sig .tc := ⟨.hbm, 60, rfl⟩
abbrev main_while0b_call4_c : Ref sig .tc := ⟨.hbm, 61, rfl⟩
abbrev main_while0b_call4_c_0 : Ref sig .tc := ⟨.hbm, 62, rfl⟩
abbrev main_while0b_v83 : Ref sig .tc := ⟨.hbm, 63, rfl⟩
abbrev main_while0b_call5_v0 : Ref sig .tc := ⟨.hbm, 64, rfl⟩
abbrev main_while0b_call5_c : Ref sig .tc := ⟨.hbm, 65, rfl⟩
abbrev main_while0b_call5_c_0 : Ref sig .tc := ⟨.hbm, 66, rfl⟩
abbrev main_while0b_v84 : Ref sig .tc := ⟨.hbm, 67, rfl⟩
abbrev main_while0b_c_22 : Ref sig .tc := ⟨.hbm, 68, rfl⟩
abbrev main_while0b_v85 : Ref sig .tc := ⟨.hbm, 69, rfl⟩
abbrev main_v17 : Ref sig .tc := ⟨.hbm, 70, rfl⟩
abbrev main_v18 : Ref sig .tc := ⟨.hbm, 71, rfl⟩
abbrev main_c_2 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_c_3 : Ref sig .tc := ⟨.hbm, 76, rfl⟩
abbrev main_v22 : Ref sig .tc := ⟨.hbm, 77, rfl⟩
abbrev main_v23 : Ref sig .tc := ⟨.hbm, 78, rfl⟩
abbrev main_c_4 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_c_5 : Ref sig .tc := ⟨.hbm, 83, rfl⟩
abbrev main_v27 : Ref sig .tc := ⟨.hbm, 84, rfl⟩
abbrev main_v28 : Ref sig .tc := ⟨.hbm, 85, rfl⟩
abbrev main_c_6 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_call6_v0 : Ref sig .tc := ⟨.hbm, 99, rfl⟩
abbrev main_call6_cst : Ref sig .tc := ⟨.hbm, 100, rfl⟩
abbrev main_call6_c : Ref sig .tc := ⟨.hbm, 101, rfl⟩
abbrev main_call6_v1_0 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_c_7 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_c_8 : Ref sig .tc := ⟨.hbm, 111, rfl⟩
abbrev main_v48 : Ref sig .tc := ⟨.hbm, 112, rfl⟩
abbrev main_v49 : Ref sig .tc := ⟨.hbm, 113, rfl⟩
abbrev main_c_9 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_c_10 : Ref sig .tc := ⟨.hbm, 118, rfl⟩
abbrev main_v53 : Ref sig .tc := ⟨.hbm, 119, rfl⟩
abbrev main_v54 : Ref sig .tc := ⟨.hbm, 120, rfl⟩
abbrev main_c_11 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_c_12 : Ref sig .tc := ⟨.hbm, 131, rfl⟩
abbrev main_v64 : Ref sig .tc := ⟨.hbm, 132, rfl⟩
abbrev main_c_13 : Ref sig .tc := ⟨.hbm, 133, rfl⟩
abbrev main_v65_0 : Ref sig .tc := ⟨.hbm, 134, rfl⟩
abbrev main_v65_1 : Ref sig .tc := ⟨.hbm, 135, rfl⟩
abbrev main_v65_2 : Ref sig .tc := ⟨.hbm, 136, rfl⟩
abbrev main_v65_3 : Ref sig .tc := ⟨.hbm, 137, rfl⟩
abbrev main_while1c_c_17 : Ref sig .tc := ⟨.hbm, 138, rfl⟩
abbrev main_while1c_v69 : Ref sig .tc := ⟨.hbm, 139, rfl⟩
abbrev main_while1b_c_17 : Ref sig .tc := ⟨.hbm, 140, rfl⟩
abbrev main_while1b_v69 : Ref sig .tc := ⟨.hbm, 141, rfl⟩
abbrev main_while1b_c_18 : Ref sig .tc := ⟨.hbm, 142, rfl⟩
abbrev main_while1b_v70 : Ref sig .tc := ⟨.hbm, 143, rfl⟩
abbrev main_while1b_call7_c : Ref sig .tc := ⟨.hbm, 144, rfl⟩
abbrev main_while1b_call7_c_0 : Ref sig .tc := ⟨.hbm, 145, rfl⟩
abbrev main_while1b_call7_v0 : Ref sig .tc := ⟨.hbm, 146, rfl⟩
abbrev main_while1b_v71 : Ref sig .tc := ⟨.hbm, 147, rfl⟩
abbrev main_while1b_v72 : Ref sig .tc := ⟨.hbm, 148, rfl⟩
abbrev main_while1b_c_19 : Ref sig .tc := ⟨.hbm, 149, rfl⟩
abbrev main_while1b_v73 : Ref sig .tc := ⟨.hbm, 150, rfl⟩
abbrev main_while1b_v74 : Ref sig .tc := ⟨.hbm, 151, rfl⟩
abbrev main_while1b_c_20 : Ref sig .tc := ⟨.hbm, 152, rfl⟩
abbrev main_while1b_v75 : Ref sig .tc := ⟨.hbm, 153, rfl⟩
abbrev main_while1b_v76 : Ref sig .tc := ⟨.hbm, 154, rfl⟩
abbrev main_while1b_v77 : Ref sig .tc := ⟨.hbm, 155, rfl⟩
abbrev main_while1b_c_21 : Ref sig .tc := ⟨.hbm, 156, rfl⟩
abbrev main_while1b_v78 : Ref sig .tc := ⟨.hbm, 157, rfl⟩
abbrev main_while1b_v79 : Ref sig .tc := ⟨.hbm, 158, rfl⟩
abbrev main_while1b_c_22 : Ref sig .tc := ⟨.hbm, 159, rfl⟩
abbrev main_while1b_v80 : Ref sig .tc := ⟨.hbm, 160, rfl⟩
abbrev main_while1b_v81 : Ref sig .tc := ⟨.hbm, 161, rfl⟩
abbrev main_while1b_v82 : Ref sig .tc := ⟨.hbm, 162, rfl⟩
abbrev main_while1b_v83 : Ref sig .tc := ⟨.hbm, 163, rfl⟩
abbrev main_while1b_v84 : Ref sig .tc := ⟨.hbm, 164, rfl⟩
abbrev main_while1b_v85 : Ref sig .tc := ⟨.hbm, 165, rfl⟩
abbrev main_while1b_v86 : Ref sig .tc := ⟨.hbm, 166, rfl⟩
abbrev main_while1b_call8_v0 : Ref sig .tc := ⟨.hbm, 167, rfl⟩
abbrev main_while1b_call8_c : Ref sig .tc := ⟨.hbm, 168, rfl⟩
abbrev main_while1b_v87 : Ref sig .tc := ⟨.hbm, 169, rfl⟩
abbrev main_while1b_c_23 : Ref sig .tc := ⟨.hbm, 170, rfl⟩
abbrev main_while1b_v88 : Ref sig .tc := ⟨.hbm, 171, rfl⟩
abbrev main_v66 : Ref sig .tc := ⟨.hbm, 172, rfl⟩
abbrev main_v67 : Ref sig .tc := ⟨.hbm, 173, rfl⟩
abbrev main_v68 : Ref sig .tc := ⟨.hbm, 174, rfl⟩

abbrev nD : Nat := 1
abbrev τ : Topo := Topo.v7x

variable {F : FTy → Type} [FloatOps F]

abbrev main_while0_count : Scf.Loop 32 := ⟨0#32, 511#32, 1#32⟩

abbrev main_while1_count : Scf.Loop 32 := ⟨0#32, 511#32, 1#32⟩
-- ==== Proof.KernelModel.lean ====
/-
What the kernel computes, as recursions over the time steps: the running maximum it keeps in its scratch rows
(`mrow`), and the decoded label row by row from the last time step down (`prow`). Both are over any float algebra and
are written with the payloads of the kernel's own skeleton.
-/
module

public import proofs.«01_k».proof.Proof.Gen.KernelIdeal.Skeleton
public import Idealize.ShloMosaic.Lib.Pointwise

@[expose] public section

noncomputable section

namespace Cert.KernelIdeal.Model

open Idealize.ShloMosaic Idealize.ShloMosaic.TcCoe
open Cert.KernelIdeal Cert.KernelIdeal.Gen

variable {F : FTy → Type} [FloatOps F]

/-- Time step `s` of the scores, a step past the end read as the last one. -/
def xrow (x : Vec F S512x48x128 .f32) (s : ℕ) : Vec F S1x48x128 .f32 := fun i =>
  x (ix3 (⟨min s 511, by omega⟩ : Fin 512) (i 1 : Fin 48) (i 2 : Fin 128))

/-- The running maximum before time step `s`: zero, then each step's best score added. -/
def mrow (x : Vec F S512x48x128 .f32) : ℕ → FVec F S1x128 .f32
  | 0 => k0_pay17
  | s + 1 => k0_pay18 (mrow x s) (k0_pay7 (xrow x s))

/-- The same row as it is stored, with a leading unit axis. -/
def mrow3 (x : Vec F S512x48x128 .f32) (s : ℕ) : Vec F S1x1x128 .f32 := k0_pay2 (mrow x s)

/-- The position of each label on the label axis. -/
def lab : IVec S48x128 32 := iota .tc S48x128 32 [0] iota_S48x128_d0_w32

/-- The decoded label at time step `511 - n`. -/
def prow (x : Vec F S512x48x128 .f32) : ℕ → IVec S1x128 32
  | 0 => k0_pay22 (xrow x 511) (mrow3 x 511) (mrow3 x 512)
  | n + 1 => k0_pay8 lab k0_pay16 (prow x n) (xrow x (511 - n)) (mrow3 x (511 - n)) (xrow x (510 - n)) (mrow3 x (510 - n))

/-- The whole result: time step `s` is the decoded label `511 - s` steps from the end. -/
def out (x : Vec F S512x48x128 .f32) : Vec F S512x1x128 .i32 := fun i =>
  k0_pay9 (prow x (511 - (i 0).val)) (ix3 (0 : Fin 1) (0 : Fin 1) (i 2 : Fin 128))

end Cert.KernelIdeal.Model

end
-- ==== Proof.KernelTrips.lean ====
/-
The kernel's two counted loops, trip by trip: what the forward loop's scratch rows and carried maximum are before trip
`k` (`fwd`), and what the backward loop's result rows and carried label are before trip `k` (`bwd`).
-/
module

public import proofs.«01_k».proof.Proof.Gen.KernelIdeal.Loops
public import proofs.«01_k».proof.Proof.KernelModel
public import Idealize.ShloMosaic.Lib.WritesUnit

@[expose] public section

set_option maxRecDepth 16384

noncomputable section

namespace Cert.KernelIdeal.Model

open Idealize.ShloMosaic Idealize.ShloMosaic.TcCoe
open Cert.KernelIdeal Cert.KernelIdeal.Gen

variable {F : FTy → Type} [FloatOps F]

/-! ## One row of a buffer of rows -/

/-- Reading a buffer of rows after its last write was row `o`: that row is what was written, any other is as before. -/
theorem read_row {N : ℕ} {e : EltTy} {κ : Kind} {sp : Space} (v : View sig κ sp ⟨3, ![N, 1, 128]⟩ e)
    (f : v.ty.Contents (Elt F)) {off : Fin 3 → ℕ} (o : ℕ)
    (inb : ∀ a, off a + S1x1x128.size a ≤ (⟨3, ![N, 1, 128]⟩ : Shape).size a)
    (w : Vec F S1x1x128 e) (L : List (View.Piece (Elt F) (⟨3, ![N, 1, 128]⟩ : Shape) e))
    (y : (⟨3, ![N, 1, 128]⟩ : Shape).Idx) (hoff : off = ![o, 0, 0]) :
    v.read (Elt F) (v.writes (Elt F) f
        ((⟨Rect.unit (s := ⟨3, ![N, 1, 128]⟩) off S1x1x128.size inb, w⟩ : View.Piece (Elt F) (⟨3, ![N, 1, 128]⟩ : Shape) e) :: L)) y
      = if (y 0).val = o then w (ix3 (0 : Fin 1) (0 : Fin 1) (y 2 : Fin 128))
        else v.read (Elt F) (v.writes (Elt F) f L) y := by
  by_cases h : (y 0).val = o
  · rw [if_pos h]
    refine View.read_writes_cons_unit_of_mem v f inb w L y (ix3 (0 : Fin 1) (0 : Fin 1) (y 2 : Fin 128)) hoff ?_
    intro a
    match a with
    | ⟨0, _⟩ => exact h
    | ⟨1, _⟩ =>
      have : (y 1).val < 1 := (y 1).isLt
      show (y 1).val = 0 + 0
      omega
    | ⟨2, _⟩ => show (y 2).val = 0 + (y 2).val; omega
  · rw [if_neg h]
    refine View.read_writes_cons_unit_of_not_mem v f inb w L y hoff 0 ?_
    show (y 0).val < o ∨ o + 1 ≤ (y 0).val
    omega

/-- A load of row `s`, when the buffer reads row by row as `g`. -/
theorem load_row {N : ℕ} {e : EltTy} {κ : Kind} {sp : Space} (v : View sig κ sp ⟨3, ![N, 1, 128]⟩ e)
    (f : v.ty.Contents (Elt F)) {off : Fin 3 → ℕ} (s : ℕ)
    (inb : ∀ a, off a + S1x1x128.size a ≤ (⟨3, ![N, 1, 128]⟩ : Shape).size a) (hoff : off = ![s, 0, 0])
    (g : Vec F S1x1x128 e)
    (h : ∀ y : (⟨3, ![N, 1, 128]⟩ : Shape).Idx, (y 0).val = s → v.read (Elt F) f y = g (ix3 (0 : Fin 1) (0 : Fin 1) (y 2 : Fin 128))) :
    v.readAt (Elt F) (Rect.unit (s := ⟨3, ![N, 1, 128]⟩) off S1x1x128.size inb).toLoadRect f = g := by
  subst hoff
  funext j
  have h0 : (j 0).val = 0 := by have : (j 0).val < 1 := (j 0).isLt; omega
  have h1 : (j 1).val = 0 := by have : (j 1).val < 1 := (j 1).isLt; omega
  show v.read (Elt F) f ((Rect.unit (s := ⟨3, ![N, 1, 128]⟩) ![s, 0, 0] S1x1x128.size inb).toLoadRect.idx j) = g j
  rw [h _ (by show s + 1 * (j 0).val = s; omega)]
  congr 1
  funext a
  match a with
  | ⟨0, _⟩ => exact Fin.ext h0.symm
  | ⟨1, _⟩ => exact Fin.ext h1.symm
  | ⟨2, _⟩ => exact Fin.ext (show 0 + 1 * (j 2).val = (j 2).val by omega)

/-- A load of one time step of the scores is that time step of them. -/
theorem load_x (arg0 : Memref sig .tc .vmem S512x48x128 .f32) (harg0 : arg0.IsWhole) (x : Vec F S512x48x128 .f32)
    {off : Fin 3 → ℕ} (s : ℕ) (inb : ∀ a, off a + S1x48x128.size a ≤ S512x48x128.size a) (hoff : off = ![s, 0, 0]) :
    View.readAt (Elt F) arg0.view (Rect.unit (s := S512x48x128) off S1x48x128.size inb).toLoadRect (harg0.unread x)
      = xrow x s := by
  subst hoff
  have hs : s + 1 ≤ 512 := inb 0
  funext j
  have h0 : (j 0).val = 0 := by have : (j 0).val < 1 := (j 0).isLt; omega
  show arg0.view.read (Elt F) (harg0.unread x) _ = _
  rw [harg0.read_unread x]
  unfold xrow
  congr 1
  funext a
  match a with
  | ⟨0, _⟩ => exact Fin.ext (show s + 1 * (j 0).val = min s 511 by omega)
  | ⟨1, _⟩ => exact Fin.ext (show 0 + 1 * (j 1).val = (j 1).val by omega)
  | ⟨2, _⟩ => exact Fin.ext (show 0 + 1 * (j 2).val = (j 2).val by omega)

/-! ## The forward loop -/

section
variable (𝒱 : Variants) (c : Dev nD) (bd : Option 𝒱.V) (arg0 : Memref sig .tc .vmem S512x48x128 .f32) (harg0 : arg0.IsWhole)
  (arg1 : Memref sig .tc .vmem S512x1x128 .i32) (harg1 : arg1.IsWhole) (arg2 : Memref sig .tc .vmem S513x1x128 .f32)
  (harg2 : arg2.IsWhole) (x : Vec F S512x48x128 .f32)

/-- One forward trip's carried maximum: four steps on. -/
theorem fwd_value (k : Fin k0_t1_loop.trips) :
    tripR_k0_t1 (F := F) 𝒱 c bd arg0 harg0 arg1 harg1 arg2 harg2 (harg0.unread x) k (mrow x (4 * k.val))
      = mrow x (4 * k.val + 4) := by
  unfold tripR_k0_t1 trip_k0_t1
  dsimp only [trip_k0_t1.sl.r, trip_k0_t1.sl.r_1]
  rw [load_x arg0 harg0 x (off := k0_off2 k 0#32) _ _ (k0_off2_eq k 0), load_x arg0 harg0 x (off := k0_off2 k 1#32) _ _ (k0_off2_eq k 1),
    load_x arg0 harg0 x (off := k0_off2 k 2#32) _ _ (k0_off2_eq k 2), load_x arg0 harg0 x (off := k0_off2 k 3#32) _ _ (k0_off2_eq k 3)]
  rfl

/-- One forward trip's stores: rows `4k` to `4k + 3` hold the running maximum before those steps. -/
theorem fwd_rows (k : Fin k0_t1_loop.trips) (f : arg2.view.ty.Contents (Elt F))
    (L : List (View.Piece (Elt F) S513x1x128 .f32)) (y : S513x1x128.Idx)
    (hL : (y 0).val < 4 * k.val → arg2.view.read (Elt F) (arg2.view.writes (Elt F) f L) y
      = mrow3 x (y 0).val (ix3 (0 : Fin 1) (0 : Fin 1) (y 2 : Fin 128)))
    (hy : (y 0).val < 4 * k.val + 4) :
    arg2.view.read (Elt F) (arg2.view.writes (Elt F) f
        (tripL_k0_t1 (F := F) 𝒱 c bd arg0 harg0 arg1 harg1 arg2 harg2 (harg0.unread x) k (mrow x (4 * k.val)) ++ L)) y
      = mrow3 x (y 0).val (ix3 (0 : Fin 1) (0 : Fin 1) (y 2 : Fin 128)) := by
  unfold tripL_k0_t1 trip_k0_t1
  dsimp only [trip_k0_t1.sl.r, trip_k0_t1.sl.r_1]
  rw [load_x arg0 harg0 x (off := k0_off2 k 0#32) _ _ (k0_off2_eq k 0), load_x arg0 harg0 x (off := k0_off2 k 1#32) _ _ (k0_off2_eq k 1),
    load_x arg0 harg0 x (off := k0_off2 k 2#32) _ _ (k0_off2_eq k 2)]
  simp only [List.cons_append, List.nil_append]
  rw [read_row arg2.view f (off := k0_off1 k 3#32) (4 * k.val + 3) _ _ _ y (k0_off1_eq k 3)]
  split_ifs with h3
  · rw [h3]; rfl
  rw [read_row arg2.view f (off := k0_off1 k 2#32) (4 * k.val + 2) _ _ _ y (k0_off1_eq k 2)]
  split_ifs with h2
  · rw [h2]; rfl
  rw [read_row arg2.view f (off := k0_off1 k 1#32) (4 * k.val + 1) _ _ _ y (k0_off1_eq k 1)]
  split_ifs with h1
  · rw [h1]; rfl
  rw [read_row arg2.view f (off := k0_off1 k 0#32) (4 * k.val + 0) _ _ _ y (k0_off1_eq k 0)]
  split_ifs with h0
  · rw [h0]; rfl
  exact hL (by omega)

/-- Before forward trip `k`: the carried maximum is that before step `4k`, and the rows below `4k` hold the maxima. -/
theorem fwd (k : ℕ) (hk : k ≤ k0_t1_loop.trips) :
    (st_k0_t1 (F := F) 𝒱 c bd arg0 harg0 arg1 harg1 arg2 harg2 (harg0.unread x) k0_pay17 k).1 = mrow x (4 * k)
      ∧ ∀ (f : arg2.view.ty.Contents (Elt F)) (y : S513x1x128.Idx), (y 0).val < 4 * k →
        arg2.view.read (Elt F) (arg2.view.writes (Elt F) f
          (st_k0_t1 (F := F) 𝒱 c bd arg0 harg0 arg1 harg1 arg2 harg2 (harg0.unread x) k0_pay17 k).2) y
        = mrow3 x (y 0).val (ix3 (0 : Fin 1) (0 : Fin 1) (y 2 : Fin 128)) := by
  induction k with
  | zero => exact ⟨rfl, fun _ _ h => absurd h (by omega)⟩
  | succ k ih =>
    obtain ⟨ih1, ih2⟩ := ih (by omega)
    rw [st_k0_t1_succ 𝒱 c bd arg0 harg0 arg1 harg1 arg2 harg2 (harg0.unread x) k0_pay17 ⟨k, by omega⟩]
    rw [ih1]
    refine ⟨fwd_value 𝒱 c bd arg0 harg0 arg1 harg1 arg2 harg2 x ⟨k, by omega⟩, fun f y hy => ?_⟩
    exact fwd_rows 𝒱 c bd arg0 harg0 arg1 harg1 arg2 harg2 x ⟨k, by omega⟩ f _ y (ih2 f y) hy

/-! ## The backward loop -/

/-- The rows of the scratch all hold the running maxima. -/
def Rows (X : arg2.view.ty.Contents (Elt F)) : Prop :=
  ∀ y : S513x1x128.Idx, arg2.view.read (Elt F) X y = mrow3 x (y 0).val (ix3 (0 : Fin 1) (0 : Fin 1) (y 2 : Fin 128))

variable {arg2 x} in
/-- A load of scratch row `s` is the running maximum before step `s`. -/
theorem Rows.load {X : arg2.view.ty.Contents (Elt F)} (hX : Rows arg2 x X) {off : Fin 3 → ℕ} (s : ℕ)
    (inb : ∀ a, off a + S1x1x128.size a ≤ S513x1x128.size a) (hoff : off = ![s, 0, 0]) :
    View.readAt (Elt F) arg2.view (Rect.unit (s := S513x1x128) off S1x1x128.size inb).toLoadRect X = mrow3 x s :=
  load_row arg2.view X s inb hoff _ fun y hy => by rw [hX y, hy]

variable (X : arg2.view.ty.Contents (Elt F)) (hX : Rows arg2 x X) (v26 : IVec S1x128 32) (c0 c1 : BitVec 32)

include hX

/-- One backward trip's carried label: four steps on. -/
theorem bwd_value (k : Fin k0_t2_loop.trips) :
    tripR_k0_t2 (F := F) 𝒱 c bd arg0 harg0 arg1 harg1 arg2 harg2 lab k0_pay16 v26 c0 c1 (harg0.unread x) X k (prow x (4 * k.val))
      = prow x (4 * k.val + 4) := by
  unfold tripR_k0_t2 trip_k0_t2
  dsimp only [trip_k0_t2.sl.r, trip_k0_t2.sl.r_2, trip_k0_t2.sl.r_4]
  rw [load_x arg0 harg0 x (off := k0_off3 k 0#32) _ _ (k0_off3_eq k 0), load_x arg0 harg0 x (off := k0_off3 k 1#32) _ _ (k0_off3_eq k 1),
    load_x arg0 harg0 x (off := k0_off3 k 2#32) _ _ (k0_off3_eq k 2), load_x arg0 harg0 x (off := k0_off3 k 3#32) _ _ (k0_off3_eq k 3),
    load_x arg0 harg0 x (off := k0_off5 k 0#32) _ _ (k0_off5_eq k 0), load_x arg0 harg0 x (off := k0_off5 k 1#32) _ _ (k0_off5_eq k 1),
    load_x arg0 harg0 x (off := k0_off5 k 2#32) _ _ (k0_off5_eq k 2), load_x arg0 harg0 x (off := k0_off5 k 3#32) _ _ (k0_off5_eq k 3),
    hX.load (off := k0_off4 k 0#32) _ _ (k0_off4_eq k 0), hX.load (off := k0_off4 k 1#32) _ _ (k0_off4_eq k 1), hX.load (off := k0_off4 k 2#32) _ _ (k0_off4_eq k 2), hX.load (off := k0_off4 k 3#32) _ _ (k0_off4_eq k 3),
    hX.load (off := k0_off6 k 0#32) _ _ (k0_off6_eq k 0), hX.load (off := k0_off6 k 1#32) _ _ (k0_off6_eq k 1), hX.load (off := k0_off6 k 2#32) _ _ (k0_off6_eq k 2), hX.load (off := k0_off6 k 3#32) _ _ (k0_off6_eq k 3)]
  rfl

/-- One backward trip's stores: rows `510 - 4k` down to `507 - 4k` hold the decoded labels. -/
theorem bwd_rows (k : Fin k0_t2_loop.trips) (f : arg1.view.ty.Contents (Elt F))
    (L : List (View.Piece (Elt F) S512x1x128 .i32)) (y : S512x1x128.Idx)
    (hL : 511 - 4 * k.val ≤ (y 0).val → arg1.view.read (Elt F) (arg1.view.writes (Elt F) f L) y = out x y)
    (hy : 511 - (4 * k.val + 4) ≤ (y 0).val) :
    arg1.view.read (Elt F) (arg1.view.writes (Elt F) f
        (tripL_k0_t2 (F := F) 𝒱 c bd arg0 harg0 arg1 harg1 arg2 harg2 lab k0_pay16 v26 c0 c1 (harg0.unread x) X k (prow x (4 * k.val)) ++ L)) y
      = out x y := by
  have hk : k.val < 127 := k.isLt
  unfold tripL_k0_t2 trip_k0_t2
  dsimp only [trip_k0_t2.sl.r, trip_k0_t2.sl.r_2, trip_k0_t2.sl.r_3, trip_k0_t2.sl.r_4]
  rw [load_x arg0 harg0 x (off := k0_off3 k 0#32) _ _ (k0_off3_eq k 0), load_x arg0 harg0 x (off := k0_off3 k 1#32) _ _ (k0_off3_eq k 1),
    load_x arg0 harg0 x (off := k0_off3 k 2#32) _ _ (k0_off3_eq k 2), load_x arg0 harg0 x (off := k0_off3 k 3#32) _ _ (k0_off3_eq k 3),
    load_x arg0 harg0 x (off := k0_off5 k 0#32) _ _ (k0_off5_eq k 0), load_x arg0 harg0 x (off := k0_off5 k 1#32) _ _ (k0_off5_eq k 1),
    load_x arg0 harg0 x (off := k0_off5 k 2#32) _ _ (k0_off5_eq k 2), load_x arg0 harg0 x (off := k0_off5 k 3#32) _ _ (k0_off5_eq k 3),
    hX.load (off := k0_off4 k 0#32) _ _ (k0_off4_eq k 0), hX.load (off := k0_off4 k 1#32) _ _ (k0_off4_eq k 1), hX.load (off := k0_off4 k 2#32) _ _ (k0_off4_eq k 2), hX.load (off := k0_off4 k 3#32) _ _ (k0_off4_eq k 3),
    hX.load (off := k0_off6 k 0#32) _ _ (k0_off6_eq k 0), hX.load (off := k0_off6 k 1#32) _ _ (k0_off6_eq k 1), hX.load (off := k0_off6 k 2#32) _ _ (k0_off6_eq k 2), hX.load (off := k0_off6 k 3#32) _ _ (k0_off6_eq k 3)]
  simp only [List.cons_append, List.nil_append]
  rw [read_row arg1.view f (off := k0_off7 k 3#32) _ _ _ _ y (k0_off7_eq k 3)]
  split_ifs with h3
  · unfold out; rw [show 511 - (y 0).val = 4 * k.val + 4 by rw [h3]; show 511 - (510 - (4 * k.val + 3)) = _; omega]; rfl
  rw [read_row arg1.view f (off := k0_off7 k 2#32) _ _ _ _ y (k0_off7_eq k 2)]
  split_ifs with h2
  · unfold out; rw [show 511 - (y 0).val = 4 * k.val + 3 by rw [h2]; show 511 - (510 - (4 * k.val + 2)) = _; omega]; rfl
  rw [read_row arg1.view f (off := k0_off7 k 1#32) _ _ _ _ y (k0_off7_eq k 1)]
  split_ifs with h1
  · unfold out; rw [show 511 - (y 0).val = 4 * k.val + 2 by rw [h1]; show 511 - (510 - (4 * k.val + 1)) = _; omega]; rfl
  rw [read_row arg1.view f (off := k0_off7 k 0#32) _ _ _ _ y (k0_off7_eq k 0)]
  split_ifs with h0
  · unfold out; rw [show 511 - (y 0).val = 4 * k.val + 1 by rw [h0]; show 511 - (510 - (4 * k.val + 0)) = _; omega]; rfl
  refine hL ?_
  change ¬ (y 0).val = 510 - (4 * k.val + 3) at h3
  change ¬ (y 0).val = 510 - (4 * k.val + 2) at h2
  change ¬ (y 0).val = 510 - (4 * k.val + 1) at h1
  change ¬ (y 0).val = 510 - (4 * k.val + 0) at h0
  omega

/-- Before backward trip `k`, over contents whose last row is written: the carried label is that of step `511 - 4k`, and
the rows from there up hold the result. -/
theorem bwd (f : arg1.view.ty.Contents (Elt F)) (h511 : ∀ y : S512x1x128.Idx, (y 0).val = 511 → arg1.view.read (Elt F) f y = out x y)
    (k : ℕ) (hk : k ≤ k0_t2_loop.trips) :
    (st_k0_t2 (F := F) 𝒱 c bd arg0 harg0 arg1 harg1 arg2 harg2 lab k0_pay16 v26 c0 c1 (harg0.unread x) X (prow x 0) k).1 = prow x (4 * k)
      ∧ ∀ (y : S512x1x128.Idx), 511 - 4 * k ≤ (y 0).val →
        arg1.view.read (Elt F) (arg1.view.writes (Elt F) f
          (st_k0_t2 (F := F) 𝒱 c bd arg0 harg0 arg1 harg1 arg2 harg2 lab k0_pay16 v26 c0 c1 (harg0.unread x) X (prow x 0) k).2) y
        = out x y := by
  induction k with
  | zero =>
    refine ⟨rfl, fun y h => ?_⟩
    have : (y 0).val < 512 := (y 0).isLt
    exact h511 y (by omega)
  | succ k ih =>
    obtain ⟨ih1, ih2⟩ := ih (by omega)
    rw [st_k0_t2_succ 𝒱 c bd arg0 harg0 arg1 harg1 arg2 harg2 lab k0_pay16 v26 c0 c1 (harg0.unread x) X (prow x 0) ⟨k, by omega⟩]
    rw [ih1]
    refine ⟨bwd_value 𝒱 c bd arg0 harg0 arg1 harg1 arg2 harg2 x X hX v26 c0 c1 ⟨k, by omega⟩, fun y hy => ?_⟩
    exact bwd_rows 𝒱 c bd arg0 harg0 arg1 harg1 arg2 harg2 x X hX v26 c0 c1 ⟨k, by omega⟩ f _ y (ih2 y) hy

end

end Cert.KernelIdeal.Model

end
-- ==== Proof.KernelRun.lean ====
/-
The kernel body run once: from its input staged at `x0`, whatever its result and scratch buffers hold, it ends with the
result buffer holding `Model.out x0`.
-/
module

public import proofs.«01_k».proof.Proof.Gen.KernelIdeal.Frame
public import proofs.«01_k».proof.Proof.KernelTrips

@[expose] public section

set_option maxRecDepth 16384

noncomputable section

namespace Cert.KernelIdeal.Model

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

-- (the body is run operation by operation in one proof)
set_option maxHeartbeats 1000000 in
/-- The body's triple: the input as it was, the result at `out x0`, the scratch at some contents. -/
theorem body_run (c : Dev nD) (arg0 : Memref sig .tc .vmem S512x48x128 .f32) (harg0 : arg0.IsWhole)
    (arg1 : Memref sig .tc .vmem S512x1x128 .i32) (harg1 : arg1.IsWhole) (arg2 : Memref sig .tc .vmem S513x1x128 .f32)
    (harg2 : arg2.IsWhole) (x0 : Vec F S512x48x128 .f32) (E : Set ℕ) (K : PUnit → sProp 𝕄) :
    iprop(owns (c : Thread nD τ) arg0 fullShare x0 ∗ (∃ d, owns (c : Thread nD τ) arg1 fullShare d)
        ∗ (∃ d, owns (c : Thread nD τ) arg2 fullShare d)
        ∗ (iprop(owns (c : Thread nD τ) arg0 fullShare x0 ∗ owns (c : Thread nD τ) arg1 fullShare (out x0)
            ∗ (∃ d, owns (c : Thread nD τ) arg2 fullShare d)) -∗ K ⟨⟩))
      ⊢ wp frame (wpE (defs₀ (F := F)) Variants.none c none) E (cc0__viterbi_kernel arg0 harg0 arg1 harg1 arg2 harg2) K := by
  simp only [cc0__viterbi_kernel_eq_skeleton]; unfold cc0__viterbi_kernel_skel
  simp only [k0_part6_eq_skeleton, k0_part7_eq_skeleton, k0_part8_eq_skeleton]
  unfold owns
  iintro ⟨⟨%f0, %hf0, H0⟩, ⟨%d1, %f1, -, H1⟩, ⟨%ds0, %fs0, -, HS0⟩, Hk⟩
  obtain rfl := harg0.eq_unread hf0
  sl_exec
  sl_step
  iapply Hk
  isplitl [H0]
  · iexists _; isplitr; · ipureintro; exact harg0.read_unread _
    iexact H0
  isplitl [H1]
  · iexists _; isplitr; swap; · iexact H1
    ipureintro
    have hfwd := fwd Variants.none c none arg0 harg0 arg1 harg1 arg2 harg2 x0 128 (by decide)
    have hrows' : ∀ f, Rows arg2 x0 (arg2.view.writes (Elt F) f (body_run.sl.HS0_1 c arg0 harg0 arg1 harg1 arg2 harg2 x0)) := by
      intro f y
      have hy : (y 0).val < 513 := (y 0).isLt
      delta body_run.sl.HS0_1
      rw [read_row arg2.view f (off := ![512, 0, 0]) 512 _ _ _ y rfl]
      split_ifs with h
      · rw [h]; exact congrArg (fun v => k0_pay21 v _) hfwd.1
      · exact hfwd.2 f y (by omega)
    have h16 : body_run.sl.v16 c arg0 harg0 arg1 harg1 arg2 harg2 x0 = mrow3 x0 512 := by
      delta body_run.sl.v16
      exact (hrows' _).load 512 _ rfl
    have hrows := hrows' fs0
    delta body_run.sl.r_3 body_run.sl.r_2 body_run.sl.r_1 body_run.sl.r
    rw [h16]
    generalize (arg2.view.writes (Elt F) fs0 (body_run.sl.HS0_1 c arg0 harg0 arg1 harg1 arg2 harg2 x0)) = X at hrows ⊢
    rw [load_x arg0 harg0 x0 (off := ![511, 0, 0]) _ _ rfl,
      load_x arg0 harg0 x0 (off := ![3, 0, 0]) _ _ rfl, load_x arg0 harg0 x0 (off := ![2, 0, 0]) _ _ rfl,
      load_x arg0 harg0 x0 (off := ![1, 0, 0]) _ _ rfl, load_x arg0 harg0 x0 (off := ![0, 0, 0]) _ _ rfl,
      hrows.load (off := ![511, 0, 0]) _ _ rfl, hrows.load (off := ![3, 0, 0]) _ _ rfl,
      hrows.load (off := ![2, 0, 0]) _ _ rfl, hrows.load (off := ![1, 0, 0]) _ _ rfl, hrows.load (off := ![0, 0, 0]) _ _ rfl]
    have h511 : ∀ y : S512x1x128.Idx, (y 0).val = 511 → arg1.view.read (Elt F) (arg1.view.writes (Elt F) f1
        [⟨Rect.unit ![511, 0, 0] S1x1x128.size inb_S512x1x128_S1x1x128_511_0_0,
          k0_pay23 (xrow x0 511) (mrow3 x0 511) (mrow3 x0 512)⟩]) y = out x0 y := by
      intro y hy
      rw [read_row arg1.view f1 (off := ![511, 0, 0]) 511 _ _ _ y rfl, if_pos hy]
      unfold out
      rw [hy]
      rfl
    have hbwd := bwd Variants.none c none arg0 harg0 arg1 harg1 arg2 harg2 x0 X hrows
      (k0_pay22 (xrow x0 511) (mrow3 x0 511) (mrow3 x0 512)) 0#32 1#32 _ h511 127 (by decide)
    rw [← View.writes_append] at hbwd
    have hlast : (st_k0_t2 Variants.none c none arg0 harg0 arg1 harg1 arg2 harg2 body_run.sl.v0 k0_pay16
        (k0_pay22 (xrow x0 511) (mrow3 x0 511) (mrow3 x0 512)) (0#32) (1#32) (harg0.unread x0) X
        (k0_pay22 (xrow x0 511) (mrow3 x0 511) (mrow3 x0 512))
        (Scf.trips k0_t2_loop.lb k0_t2_loop.ub k0_t2_loop.st)).1 = prow x0 508 := hbwd.1
    rw [hlast]
    funext y
    have hy : (y 0).val < 512 := (y 0).isLt
    rw [read_row arg1.view f1 (off := ![0, 0, 0]) 0 _ _ _ y rfl]
    split_ifs with h0
    · unfold out; rw [h0]; rfl
    rw [read_row arg1.view f1 (off := ![1, 0, 0]) 1 _ _ _ y rfl]
    split_ifs with h1
    · unfold out; rw [h1]; rfl
    rw [read_row arg1.view f1 (off := ![2, 0, 0]) 2 _ _ _ y rfl]
    split_ifs with h2
    · unfold out; rw [h2]; rfl
    exact hbwd.2 y (by omega)
  iexists _, _; isplitr; swap; · iexact HS0
  ipureintro; rfl

end Cert.KernelIdeal.Model

end
-- ==== Proof.KernelFrame.lean ====
/-
The kernel's program run whole: the body's triple put under its one-point pipeline, the launch, and the frame claim at
any float values.
-/
module

public import proofs.«01_k».proof.Proof.KernelRun
public import Idealize.ShloMosaic.Lib.Claim
public import Idealize.ShloMosaic.Lib.StableHlo.RunRead
public import Idealize.ShloMosaic.Lib.Pipeline.ValueKit

@[expose] public section

set_option maxRecDepth 16384

noncomputable section

namespace Cert.KernelIdeal.Model

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The input's staging buffer at point `t`. -/
abbrev inBuf (t : Fin cfg0.N) : Memref sig .tc .vmem S512x48x128 .f32 := win0_0.stage (cfg0.slots t 0)

/-- The output's staging buffer at point `t`. -/
abbrev outBuf (t : Fin cfg0.N) : Memref sig .tc .vmem S512x1x128 .i32 := win0_1.stage (cfg0.slots t 1)

/-- The region's own resources: the scratch buffer at some contents, and the generator register. -/
theorem own_resources (c : Dev nD) : (Pipeline.ΦA spec0 c : sProp 𝕄)
    = iprop(iprop((∃ d, owns (c : Thread nD τ) (Memref.whole cc0_scratch0) fullShare d)) ∗ (∃ r, prngReg c r)) := by
  unfold Pipeline.ΦA; rw [scopedRest0_eq]; simp only [owns_whole]; try rfl

/-- The proof data: the input's buffer keeps its block, the output's buffer ends at `out` of that block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out (iblk m c 0 t)
  Φ _ := Pipeline.ΦA spec0 c
  q _ := fullShare
  owed _ := 0

/-- The arrays are what the region finds. -/
theorem dats_A (c : Dev nD) (w : Fin cfg0.W) : (dats m 0 c).A w = V m c (Pipeline.arrRef spec0 w) := by
  dsimp only [dats]

/-- The input's buffer after the body. -/
theorem dats_after_in (c : Dev nD) (t : Fin cfg0.N) : (dats m 0 c).after 0 t = iblk m c 0 t := by dsimp only [dats]

/-- The output's buffer after the body. -/
theorem dats_after_out (c : Dev nD) (t : Fin cfg0.N) : (dats m 0 c).after 1 t = out (iblk m c 0 t) := by
  dsimp only [dats]

/-- The input's buffer before the body. -/
theorem dats_before_in (c : Dev nD) (t : Fin cfg0.N) (d) : (dats m 0 c).before 0 t d = iblk m c 0 t :=
  before0_0_of m (dats m 0 c) (dats_A m c 0) (dats_after_in m c) t d

/-- What the body starts with. -/
def pre (c : Dev nD) (t : Fin cfg0.N) : sProp 𝕄 :=
  iprop((dats m 0 c).Φ t.castSucc ∗ (dats m 0 c).owesAt () t.castSucc
    ∗ (∃ d, owns (c : Thread nD τ) (inBuf t) fullShare ((dats m 0 c).before 0 t d))
    ∗ (∃ d, owns (c : Thread nD τ) (outBuf t) fullShare ((dats m 0 c).before 1 t d)))

/-- What it ends with. -/
def post (c : Dev nD) (t : Fin cfg0.N) : sProp 𝕄 :=
  iprop((dats m 0 c).Φ t.succ ∗ (dats m 0 c).owesAt () t.succ
    ∗ owns (c : Thread nD τ) (inBuf t) fullShare ((dats m 0 c).after 0 t)
    ∗ owns (c : Thread nD τ) (outBuf t) fullShare ((dats m 0 c).after 1 t))

/-- The body's triple over the pipeline's staging buffers. -/
theorem body_sound (c : Dev nD) (t : Fin cfg0.N) :
    pre m c t ⊢ wp frame (wpE (defs₀ (F := F)) Variants.none c none) Set.univ (bodyAt0 t) (fun _ => post m c t) := by
  unfold pre post bodyAt0
  simp only [dats_before_in]
  rw [show (dats m 0 c).Φ t.succ = (dats m 0 c).Φ t.castSucc from rfl,
    show (dats m 0 c).owesAt () t.succ = (dats m 0 c).owesAt () t.castSucc from rfl, dats_after_in, dats_after_out]
  rw [show (dats m 0 c).Φ t.castSucc = Pipeline.ΦA spec0 c from rfl, own_resources]
  iintro ⟨⟨HS, Hg⟩, Ho, ⟨%d0, H0⟩, ⟨%d1, H1⟩⟩
  iapply (body_run c _ _ _ _ _ _ (iblk m c 0 t) Set.univ _)
  isplitl [H0]; · iexact H0
  isplitl [H1]; · iexists _; iexact H1
  isplitl [HS]; · iexact HS
  iintro ⟨H0, H1, HS⟩
  isplitl [HS Hg]
  · isplitl [HS]
    · iexact HS
    iexact Hg
  isplitl [Ho]; · iexact Ho
  isplitl [H0]; · iexact H0
  iexact H1

/-- The body the pipeline calls is the printed one on its staging buffers. -/
theorem body_row (t : Fin cfg0.N) : defs₀ (F := F) .tc cfg0.body (cfg0.bodyArgs t (cfg0.slots t)) = bodyAt0 t := by
  unfold defs₀; rw [Defs.onTc_tc]

/-- The pipeline's obligation on the body. -/
theorem body_ok (c : Dev nD) : BodyObligation (dats (F := F) m 0 c) (defs₀ (F := F)) Variants.none () Set.univ := fun t => by
  rw [bigSep_W0, bigSep_W0, body_row]
  exact triple_restated (body_sound m c t) rfl .rfl fun _ => .rfl

set_option backward.isDefEq.respectTransparency.types false in
set_option maxHeartbeats 800000 in
/-- The launch: the arrays end at what the proof data says, the rest at what the last host lines leave, and every
    counter at zero. -/
theorem run_all : θ_run defs (onTc (τ := τ) (main (F := F))) (s₀ m ρ)
    (fun r => Pipeline.FramePost cfgs (dats m) 0 (Pipeline.afterTail₀ cfgs (dats m) 0 (V0 m) [hostOps1]) r
      ∧ r.2.sem = fun _ => 0) :=
  Pipeline.θ_run_frame_around (Q' := _) cfgs (dats m) (0 : Fin 1) launch0 defs₀ Variants.none m ρ main
    (hbody := fun c => (body_ok m c).loose) (hshare := fun c => (dats m 0 c).share_full fun _ => rfl)
    (howed := fun _ _ => rfl) (V₀ := V0 m) (opss := [hostOps1]) (hsub := sfx_sub) (hfresh := sfx_fresh)
    (hkeep := sfx_keeps) (hmain := hmain m Variants.none) (hA := dats_A m) (hΦ := fun _ _ => rfl)

/-- The frame claim at any float values. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (dats_A m) ((θ_run defs _ _).mono (fun _ h => h.1) (run_all m ρ)))
    ((θ_run defs _ _).mono (fun _ h => h.2) (run_all m ρ))

/-- The kernel's operand: the first 48 features of the input, time first and batch last. -/
def operand (c : Dev nD) : Vec F S512x48x128 .f32 :=
  transpose S512x48x128 [1, 2, 0]
    (extractStridedSlice S128x512x48 ![0, 0, 0] (m ((c : Thread nD τ).loc main_arg0)) slices_S128x512x50_S128x512x48_0_0_0)
    transposes_S128x512x48_S512x48x128_1_2_0

/-- The region finds the operand in its input array. -/
theorem V_operand (c : Dev nD) : V m c main_v1 = operand m c := by
  unfold V V0 operand
  after_reads_simp

/-- The output array after the region. -/
theorem out_array (c : Dev nD) : (dats m 0 c).arrAt 1 (cfgs 0).N = out (operand m c) := by
  refine (dats m 0 c).arrAt_eq_of_after_last 1 t0_0 (by decide +kernel) _ fun j => ?_
  blk_simp
  have hx : iblk m c 0 t0_0 = operand m c := by
    funext j
    unfold iblk
    blk_simp
    rw [V_operand]
    refine congrArg (operand m c) (funext fun a => Fin.ext ?_)
    refine Pipeline.Window.rect_emb_val_of_index_zero win0_0 t0_0 a ?_ j
    exact (by decide +kernel : ∀ a, win0_0.index t0_0 a = 0) a
  rw [dats_after_out, hx]

/-- What the run leaves in the result array. -/
def result (c : Dev nD) : IVec S128x512 32 :=
  transpose S128x512 [1, 0] (shapeCast S512x128 (out (operand m c)) shapeCasts_S512x1x128_S512x128)
    transposes_S512x128_S128x512_1_0

/-- The last host lines put the transposed output in the result array. -/
theorem W_result (c : Dev nD) :
    Pipeline.afterTail₀ cfgs (dats m) 0 (V0 m) [hostOps1] c main_v4 = result m c := by
  unfold Pipeline.afterTail₀ result
  simp only [List.flatten_cons, List.flatten_nil, List.append_nil]
  after_reads_simp
  have h : Pipeline.withArrays (cfgs 0).spec c (V0 m c) (fun w => (dats m 0 c).arrAt w (cfgs 0).N) (Proc.tc.devRef main_v2)
      = out (operand m c) :=
    (Pipeline.withArrays_arr spec0 launch0.win.arr_inj c (V0 m c) (fun w => (dats m 0 c).arrAt w (cfgs 0).N) 1).trans (out_array m c)
  rw [h]; rfl

/-- The run's value: the result array holds `result`, the arguments as launched. -/
theorem value_run : θ_run defs (onTc (τ := τ) (main (F := F))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_all m ρ)
  have hr := h.1 c
  exact ⟨(hr.2 main_v4 (Pipeline.mem_restRefs_of main_v4 (by decide) (by decide))).trans (W_result m c),
    (hr.2 main_arg0 (Pipeline.mem_restRefs_of main_arg0 (by decide) (by decide))).trans (W_main_arg0 m (dats m) c),
    (hr.2 main_arg1 (Pipeline.mem_restRefs_of main_arg1 (by decide) (by decide))).trans (W_main_arg1 m (dats m) c),
    (hr.2 main_arg2 (Pipeline.mem_restRefs_of main_arg2 (by decide) (by decide))).trans (W_main_arg2 m (dats m) c)⟩

end Cert.KernelIdeal.Model

end
-- ==== Proof.SameProgram.lean ====
/-
No rewrite rule is applied, so the kernel's program and its idealization are one program over any float values: the same
body table and the same host code. What is proved of the second holds of the first.
-/
module

public import proofs.«01_k».proof.Defs
public import proofs.«01_k».proof.Proof.Gen.Kernel
public import proofs.«01_k».proof.Proof.KernelFrame

@[expose] public section

set_option maxRecDepth 16384

noncomputable section

namespace Cert.SameProgram

open Idealize.ShloMosaic Idealize.ShloMosaic.TcCoe Idealize.SL.Sem

variable {F : FTy → Type} [FloatOps F]

/-- The two kernel bodies are the same. -/
theorem body_eq : @Cert.Kernel.cc0__viterbi_kernel F _ Cert.Kernel.Gen.facts
    = @Cert.KernelIdeal.cc0__viterbi_kernel F _ Cert.KernelIdeal.Gen.facts := rfl

/-- The two tables of kernel bodies are the same. -/
theorem table_eq : @Cert.Kernel.defs₀ F _ Cert.Kernel.Gen.facts
    = @Cert.KernelIdeal.defs₀ F _ Cert.KernelIdeal.Gen.facts := by
  unfold Cert.Kernel.defs₀ Cert.KernelIdeal.defs₀
  congr 1
  funext l a
  match l, a with
  | ⟨0, _⟩, (_, _) => rfl
  | ⟨_ + 1, h⟩, _ => exact absurd h (by simp)

/-- The two programs' body tables, pipelines included, are the same. -/
theorem defs_eq : @Cert.Kernel.defs F _ Cert.Kernel.Gen.facts
    = @Cert.KernelIdeal.defs F _ Cert.KernelIdeal.Gen.facts :=
  congrArg (Pipeline.defs (Cert.KernelIdeal.pcfgs (F := F))) table_eq

/-- The two host programs are the same. -/
theorem main_eq : @Cert.Kernel.main F Cert.Kernel.Gen.facts
    = @Cert.KernelIdeal.main F Cert.KernelIdeal.Gen.facts := rfl

/-- The frame of the kernel's program. -/
theorem frame_claim (m ρ) :
    θ_run (Cert.Kernel.defs (F := F)) (onTc (τ := Cert.Kernel.τ) (Cert.Kernel.main (F := F))) ⟨m, fun _ => 0, ρ⟩ (fun r =>
      (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
  rw [defs_eq, main_eq]
  exact Cert.KernelIdeal.Model.frame_claim m ρ

end Cert.SameProgram

end
-- ==== Proof.RefOps.lean ====
/-
The reference program's host operations, stretch by stretch: the operations in order, that each touches only the
program's own buffers and allocates nothing, and which buffer each writes.  `ops0` runs before the first loop; `ops1`,
`opsArg`, `ops2` and `ops3` between the loops; `ops4` after the second; `b0_i` and `b1_i` are the bodies' stretches and
`cond0`, `cond1` the conditions'.
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.ReferenceIdeal.Run

open Cert.ReferenceIdeal Cert.ReferenceIdeal.Gen
open Idealize.ShloMosaic Idealize.ShloMosaic.TcCoe
open Idealize.ShloMosaic.StableHlo (Plain)
open Idealize.SL Idealize.SL.RA Idealize.SL.BI
open scoped Idealize.SL.BI
open Idealize.SL.BI.BIBase Idealize.SL.Sem

variable {F : FTy → Type} [FloatOps F]

/-- The operations before the first loop. -/
abbrev ops0 : List (HloOp τ sig (Elt F)) :=
  [ StableHlo.unary main_arg1 main_v0 ((extui 32 · natLt_1_32) : (⟨S128x512, .i1⟩ : BufTy).Contents (Elt F) → (⟨S128x512, .i32⟩ : BufTy).Contents (Elt F)),
    StableHlo.nullary main_c (constantI S_ 32 0#32),
    StableHlo.binary main_v0 main_c main_v1 ((fun x v => Host.reduce IntOp.addi x v reducesTo_S128x512_S128_d1 h_S_) : (⟨S128x512, .i32⟩ : BufTy).Contents (Elt F) → (⟨S_, .i32⟩ : BufTy).Contents (Elt F) → (⟨S128, .i32⟩ : BufTy).Contents (Elt F)),
    StableHlo.unary main_arg0 main_v2 ((transpose S512x128x50 [1, 0, 2] · transposes_S128x512x50_S512x128x50_1_0_2) : (⟨S128x512x50, .f32⟩ : BufTy).Contents (Elt F) → (⟨S512x128x50, .f32⟩ : BufTy).Contents (Elt F)),
    StableHlo.unary main_arg1 main_v3 ((transpose S512x128 [1, 0] · transposes_S128x512_S512x128_1_0) : (⟨S128x512, .i1⟩ : BufTy).Contents (Elt F) → (⟨S512x128, .i1⟩ : BufTy).Contents (Elt F)),
    StableHlo.unary main_v3 main_v4 (noti : (⟨S512x128, .i1⟩ : BufTy).Contents (Elt F) → (⟨S512x128, .i1⟩ : BufTy).Contents (Elt F)),
    StableHlo.unary main_v2 main_v5 ((extractStridedSlice S1x128x50 ![0, 0, 0] · slices_S512x128x50_S1x128x50_0_0_0) : (⟨S512x128x50, .f32⟩ : BufTy).Contents (Elt F) → (⟨S1x128x50, .f32⟩ : BufTy).Contents (Elt F)),
    StableHlo.reshape main_v5 main_v6 (rfl : (.f32 : EltTy) = .f32) shapeCasts_S1x128x50_S128x50,
    StableHlo.unary main_arg2 main_v7 ((extractStridedSlice S1x50 ![48, 0] · slices_S50x50_S1x50_48_0) : (⟨S50x50, .f32⟩ : BufTy).Contents (Elt F) → (⟨S1x50, .f32⟩ : BufTy).Contents (Elt F)),
    StableHlo.reshape main_v7 main_v8 (rfl : (.f32 : EltTy) = .f32) shapeCasts_S1x50_S50,
    StableHlo.unary main_v8 main_v9 (broadcastInDim S1x50 ![1] bcast_S50_S1x50_1 : (⟨S50, .f32⟩ : BufTy).Contents (Elt F) → (⟨S1x50, .f32⟩ : BufTy).Contents (Elt F)),
    StableHlo.unary main_v9 main_v10 (broadcastInDim S128x50 ![0, 1] bcast_S1x50_S128x50_0_1 : (⟨S1x50, .f32⟩ : BufTy).Contents (Elt F) → (⟨S128x50, .f32⟩ : BufTy).Contents (Elt F)),
    StableHlo.binary main_v6 main_v10 main_v11 (addf : (⟨S128x50, .f32⟩ : BufTy).Contents (Elt F) → (⟨S128x50, .f32⟩ : BufTy).Contents (Elt F) → (⟨S128x50, .f32⟩ : BufTy).Contents (Elt F)),
    StableHlo.unary main_v2 main_v12 ((extractStridedSlice S511x128x50 ![1, 0, 0] · slices_S512x128x50_S511x128x50_1_0_0) : (⟨S512x128x50, .f32⟩ : BufTy).Contents (Elt F) → (⟨S511x128x50, .f32⟩ : BufTy).Contents (Elt F)),
    StableHlo.unary main_v4 main_v13 ((extractStridedSlice S511x128 ![1, 0] · slices_S512x128_S511x128_1_0) : (⟨S512x128, .i1⟩ : BufTy).Contents (Elt F) → (⟨S511x128, .i1⟩ : BufTy).Contents (Elt F)),
    StableHlo.nullary main_cst (constant S_ .f32 0x00000000#32),
    StableHlo.unary main_cst main_v14 (broadcastInDim S511x128x50 ![] bcast_S_S511x128x50 : (⟨S_, .f32⟩ : BufTy).Contents (Elt F) → (⟨S511x128x50, .f32⟩ : BufTy).Contents (Elt F)),
    StableHlo.nullary main_c_0 (constantI S_ 32 0#32),
    StableHlo.unary main_c_0 main_v15 (broadcastInDim S511x128x50 ![] bcast_S_S511x128x50 : (⟨S_, .i32⟩ : BufTy).Contents (Elt F) → (⟨S511x128x50, .i32⟩ : BufTy).Contents (Elt F)),
    StableHlo.nullary main_c_1 (constantI S_ 32 0#32),
    StableHlo.unary main_v12 main_v16_0 id,
    StableHlo.unary main_v13 main_v16_1 id,
    StableHlo.unary main_arg2 main_v16_2 id,
    StableHlo.unary main_c_1 main_v16_3 id,
    StableHlo.unary main_v11 main_v16_4 id,
    StableHlo.unary main_v14 main_v16_5 id,
    StableHlo.unary main_v15 main_v16_6 id ]

/-- Its operations touch the program's buffers only. -/
theorem ops0_sub : (ops0 : List (HloOp τ sig (Elt F))).Forall fun op => op.bufs ⊆ StableHlo.tcRefs τ sig :=
  ⟨StableHlo.unary_bufs_sub .., StableHlo.nullary_bufs_sub .., StableHlo.binary_bufs_sub .., StableHlo.unary_bufs_sub .., StableHlo.unary_bufs_sub .., StableHlo.unary_bufs_sub .., StableHlo.unary_bufs_sub .., StableHlo.reshape_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- They allocate nothing. -/
theorem ops0_fresh : (ops0 : List (HloOp τ sig (Elt F))).Forall fun op => op.fresh = ∅ :=
  StableHlo.forall_fresh_of_map rfl

/-- What each writes. -/
abbrev ops0_W : List (Ref sig .tc) := [main_v0, main_c, main_v1, main_v2, main_v3, main_v4, main_v5, main_v6, main_v7, main_v8, main_v9, main_v10, main_v11, main_v12, main_v13, main_cst, main_v14, main_c_0, main_v15, main_c_1, main_v16_0, main_v16_1, main_v16_2, main_v16_3, main_v16_4, main_v16_5, main_v16_6]

/-- They write nothing else. -/
theorem ops0_writes : (ops0 : List (HloOp τ sig (Elt F))).Forall fun op => op.writes ⊆ (ops0_W.map (Proc.devRef (τ := τ) .tc)).toFinset :=
  StableHlo.forall_writes_sub_of_map rfl

/-- The first loop body, stretch 0. -/
abbrev b0_0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v16_0 : StableHlo.TRef sig ⟨S511x128x50, .f32⟩) ![(.of main_v16_3 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x128x50, .f32⟩) (fun x i => Host.dynamicSlice S1x128x50 x (fun k => (i k (Shape.Idx.first h_S_)).toInt) sliceFits_S511x128x50_S1x128x50),
    StableHlo.TRef.reshape (.of main_while0b_call0_v0 : StableHlo.TRef sig ⟨S1x128x50, .f32⟩) (.of main_while0b_v69 : StableHlo.TRef sig ⟨S128x50, .f32⟩) (rfl : (.f32 : EltTy) = .f32) shapeCasts_S1x128x50_S128x50 ]

/-- Its operations touch the program's buffers only. -/
theorem b0_0_sub : (b0_0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩

/-- They allocate nothing. -/
theorem b0_0_fresh : (b0_0 : List (HloOp τ sig (Elt F))).Forall fun op => op.fresh = ∅ :=
  StableHlo.forall_fresh_of_map rfl

/-- What each writes. -/
abbrev b0_0_W : List (Ref sig .tc) := [main_while0b_call0_c, main_while0b_call0_c_0, main_while0b_call0_v0, main_while0b_v69]

/-- They write nothing else. -/
theorem b0_0_writes : (b0_0 : List (HloOp τ sig (Elt F))).Forall fun op => op.writes ⊆ (b0_0_W.map (Proc.devRef (τ := τ) .tc)).toFinset :=
  StableHlo.forall_writes_sub_of_map rfl

/-- The first loop body, stretch 1. -/
abbrev b0_1 : List (HloOp τ sig (Elt F)) :=
  [ StableHlo.TRef.nullary (.of main_while0b_call1_c : StableHlo.TRef sig ⟨S_, .i32⟩) (constantI S_ 32 0#32),
    StableHlo.TRef.unaryIndexed (.of main_v16_1 : StableHlo.TRef sig ⟨S511x128, .i1⟩) ![(.of main_v16_3 : StableHlo.TRef sig ⟨S_, .i32⟩), (.of main_while0b_call1_c : StableHlo.TRef sig ⟨S_, .i32⟩)] (.of main_while0b_call1_v0 : StableHlo.TRef sig ⟨S1x128, .i1⟩) (fun x i => Host.dynamicSlice S1x128 x (fun k => (i k (Shape.Idx.first h_S_)).toInt) sliceFits_S511x128_S1x128),
    StableHlo.TRef.reshape (.of main_while0b_call1_v0 : StableHlo.TRef sig ⟨S1x128, .i1⟩) (.of main_while0b_v70 : StableHlo.TRef sig ⟨S128, .i1⟩) (rfl : (.i1 : EltTy) = .i1) shapeCasts_S1x128_S128 ]

/-- Its operations touch the program's buffers only. -/
theorem b0_1_sub : (b0_1 : List (HloOp τ sig (Elt F))).Forall fun op => op.bufs ⊆ StableHlo.tcRefs τ sig :=
  ⟨StableHlo.nullary_bufs_sub .., StableHlo.unaryIndexed_bufs_sub .., StableHlo.reshape_bufs_sub ..⟩

/-- They allocate nothing. -/
theorem b0_1_fresh : (b0_1 : List (HloOp τ sig (Elt F))).Forall fun op => op.fresh = ∅ :=
  StableHlo.forall_fresh_of_map rfl

/-- What each writes. -/
abbrev b0_1_W : List (Ref sig .tc) := [main_while0b_call1_c, main_while0b_call1_v0, main_while0b_v70]

/-- They write nothing else. -/
theorem b0_1_writes : (b0_1 : List (HloOp τ sig (Elt F))).Forall fun op => op.writes ⊆ (b0_1_W.map (Proc.devRef (τ := τ) .tc)).toFinset :=
  StableHlo.forall_writes_sub_of_map rfl

/-- The first loop body, stretch 2. -/
abbrev b0_2 : List (HloOp τ sig (Elt F)) :=
  [ StableHlo.unary main_while0b_v69 main_while0b_v71 (broadcastInDim S128x1x50 ![0, 2] bcast_S128x50_S128x1x50_0_2 : (⟨S128x50, .f32⟩ : BufTy).Contents (Elt F) → (⟨S128x1x50, .f32⟩ : BufTy).Contents (Elt F)),
    StableHlo.unary main_v16_2 main_while0b_v72 (broadcastInDim S1x50x50 ![1, 2] bcast_S50x50_S1x50x50_1_2 : (⟨S50x50, .f32⟩ : BufTy).Contents (Elt F) → (⟨S1x50x50, .f32⟩ : BufTy).Contents (Elt F)),
    StableHlo.unary main_while0b_v71 main_while0b_v73 (broadcastInDim S128x50x50 ![0, 1, 2] bcast_S128x1x50_S128x50x50_0_1_2 : (⟨S128x1x50, .f32⟩ : BufTy).Contents (Elt F) → (⟨S128x50x50, .f32⟩ : BufTy).Contents (Elt F)),
    StableHlo.unary main_while0b_v72 main_while0b_v74 (broadcastInDim S128x50x50 ![0, 1, 2] bcast_S1x50x50_S128x50x50_0_1_2 : (⟨S1x50x50, .f32⟩ : BufTy).Contents (Elt F) → (⟨S128x50x50, .f32⟩ : BufTy).Contents (Elt F)),
    StableHlo.binary main_while0b_v73 main_while0b_v74 main_while0b_v75 (addf : (⟨S128x50x50, .f32⟩ : BufTy).Contents (Elt F) → (⟨S128x50x50, .f32⟩ : BufTy).Contents (Elt F) → (⟨S128x50x50, .f32⟩ : BufTy).Contents (Elt F)),
    StableHlo.unary main_v16_4 main_while0b_v76 (broadcastInDim S128x50x1 ![0, 1] bcast_S128x50_S128x50x1_0_1 : (⟨S128x50, .f32⟩ : BufTy).Contents (Elt F) → (⟨S128x50x1, .f32⟩ : BufTy).Contents (Elt F)),
    StableHlo.unary main_while0b_v76 main_while0b_v77 (broadcastInDim S128x50x50 ![0, 1, 2] bcast_S128x50x1_S128x50x50_0_1_2 : (⟨S128x50x1, .f32⟩ : BufTy).Contents (Elt F) → (⟨S128x50x50, .f32⟩ : BufTy).Contents (Elt F)),
    StableHlo.binary main_while0b_v75 main_while0b_v77 main_while0b_v78 (addf : (⟨S128x50x50, .f32⟩ : BufTy).Contents (Elt F) → (⟨S128x50x50, .f32⟩ : BufTy).Contents (Elt F) → (⟨S128x50x50, .f32⟩ : BufTy).Contents (Elt F)) ]

/-- Its operations touch the program's buffers only. -/
theorem b0_2_sub : (b0_2 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub ..⟩

/-- They allocate nothing. -/
theorem b0_2_fresh : (b0_2 : List (HloOp τ sig (Elt F))).Forall fun op => op.fresh = ∅ :=
  StableHlo.forall_fresh_of_map rfl

/-- What each writes. -/
abbrev b0_2_W : List (Ref sig .tc) := [main_while0b_v71, main_while0b_v72, main_while0b_v73, main_while0b_v74, main_while0b_v75, main_while0b_v76, main_while0b_v77, main_while0b_v78]

/-- They write nothing else. -/
theorem b0_2_writes : (b0_2 : List (HloOp τ sig (Elt F))).Forall fun op => op.writes ⊆ (b0_2_W.map (Proc.devRef (τ := τ) .tc)).toFinset :=
  StableHlo.forall_writes_sub_of_map rfl

/-- The first loop body, stretch 3. -/
abbrev b0_3 : List (HloOp τ sig (Elt F)) :=
  [ StableHlo.TRef.nullary (.of main_while0b_call2_v0 : StableHlo.TRef sig ⟨S128x50x50, .i32⟩) (iotaInDim S128x50x50 32 1),
    StableHlo.TRef.nullary (.of main_while0b_call2_cst : StableHlo.TRef sig ⟨S_, .f32⟩) (constant S_ .f32 0xFF800000#32),
    StableHlo.TRef.nullary (.of main_while0b_call2_c : StableHlo.TRef sig ⟨S_, .i32⟩) (constantI S_ 32 0#32),
    StableHlo.TRef.quaternary (.of main_while0b_v78 : StableHlo.TRef sig ⟨S128x50x50, .f32⟩) (.of main_while0b_call2_v0 : StableHlo.TRef sig ⟨S128x50x50, .i32⟩) (.of main_while0b_call2_cst : StableHlo.TRef sig ⟨S_, .f32⟩) (.of main_while0b_call2_c : StableHlo.TRef sig ⟨S_, .i32⟩) (.of main_while0b_call2_v1_0 : StableHlo.TRef sig ⟨S128x50, .f32⟩) (fun x y u v j => (Host.argReduce reducer_argmax_f32_i32 x y u v reducesTo_S128x50x50_S128x50_d1 h_S_ j).1),
    StableHlo.TRef.quaternary (.of main_while0b_v78 : StableHlo.TRef sig ⟨S128x50x50, .f32⟩) (.of main_while0b_call2_v0 : StableHlo.TRef sig ⟨S128x50x50, .i32⟩) (.of main_while0b_call2_cst : StableHlo.TRef sig ⟨S_, .f32⟩) (.of main_while0b_call2_c : StableHlo.TRef sig ⟨S_, .i32⟩) (.of main_while0b_v79 : StableHlo.TRef sig ⟨S128x50, .i32⟩) (fun x y u v j => (Host.argReduce reducer_argmax_f32_i32 x y u v reducesTo_S128x50x50_S128x50_d1 h_S_ j).2) ]

/-- Its operations touch the program's buffers only. -/
theorem b0_3_sub : (b0_3 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

/-- They allocate nothing. -/
theorem b0_3_fresh : (b0_3 : List (HloOp τ sig (Elt F))).Forall fun op => op.fresh = ∅ :=
  StableHlo.forall_fresh_of_map rfl

/-- What each writes. -/
abbrev b0_3_W : List (Ref sig .tc) := [main_while0b_call2_v0, main_while0b_call2_cst, main_while0b_call2_c, main_while0b_call2_v1_0, main_while0b_v79]

/-- They write nothing else. -/
theorem b0_3_writes : (b0_3 : List (HloOp τ sig (Elt F))).Forall fun op => op.writes ⊆ (b0_3_W.map (Proc.devRef (τ := τ) .tc)).toFinset :=
  StableHlo.forall_writes_sub_of_map rfl

/-- The first loop body, stretch 4. -/
abbrev b0_4 : List (HloOp τ sig (Elt F)) :=
  [ StableHlo.unary main_while0b_v70 main_while0b_v80 (broadcastInDim S128x1 ![0] bcast_S128_S128x1_0 : (⟨S128, .i1⟩ : BufTy).Contents (Elt F) → (⟨S128x1, .i1⟩ : BufTy).Contents (Elt F)),
    StableHlo.nullary main_while0b_c_20 (constantI S_ 32 0#32) ]

/-- Its operations touch the program's buffers only. -/
theorem b0_4_sub : (b0_4 : List (HloOp τ sig (Elt F))).Forall fun op => op.bufs ⊆ StableHlo.tcRefs τ sig :=
  ⟨StableHlo.unary_bufs_sub .., StableHlo.nullary_bufs_sub ..⟩

/-- They allocate nothing. -/
theorem b0_4_fresh : (b0_4 : List (HloOp τ sig (Elt F))).Forall fun op => op.fresh = ∅ :=
  StableHlo.forall_fresh_of_map rfl

/-- What each writes. -/
abbrev b0_4_W : List (Ref sig .tc) := [main_while0b_v80, main_while0b_c_20]

/-- They write nothing else. -/
theorem b0_4_writes : (b0_4 : List (HloOp τ sig (Elt F))).Forall fun op => op.writes ⊆ (b0_4_W.map (Proc.devRef (τ := τ) .tc)).toFinset :=
  StableHlo.forall_writes_sub_of_map rfl

/-- The first loop body, stretch 5. -/
abbrev b0_5 : List (HloOp τ sig (Elt F)) :=
  [ StableHlo.TRef.unary (.of main_while0b_c_20 : StableHlo.TRef sig ⟨S_, .i32⟩) (.of main_while0b_call3_v0 : StableHlo.TRef sig ⟨S_, .i32⟩) id,
    StableHlo.TRef.unary (.of main_while0b_v80 : StableHlo.TRef sig ⟨S128x1, .i1⟩) (.of main_while0b_call3_v1 : StableHlo.TRef sig ⟨S128x50, .i1⟩) (broadcastInDim S128x50 ![0, 1] bcast_S128x1_S128x50_0_1),
    StableHlo.TRef.unary (.of main_while0b_call3_v0 : StableHlo.TRef sig ⟨S_, .i32⟩) (.of main_while0b_call3_v2 : StableHlo.TRef sig ⟨S128x50, .i32⟩) (broadcastInDim S128x50 ![] bcast_S_S128x50),
    StableHlo.TRef.ternary (.of main_while0b_call3_v1 : StableHlo.TRef sig ⟨S128x50, .i1⟩) (.of main_while0b_call3_v2 : StableHlo.TRef sig ⟨S128x50, .i32⟩) (.of main_while0b_v79 : StableHlo.TRef sig ⟨S128x50, .i32⟩) (.of main_while0b_v81 : StableHlo.TRef sig ⟨S128x50, .i32⟩) select ]

/-- Its operations touch the program's buffers only. -/
theorem b0_5_sub : (b0_5 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩

/-- They allocate nothing. -/
theorem b0_5_fresh : (b0_5 : List (HloOp τ sig (Elt F))).Forall fun op => op.fresh = ∅ :=
  StableHlo.forall_fresh_of_map rfl

/-- What each writes. -/
abbrev b0_5_W : List (Ref sig .tc) := [main_while0b_call3_v0, main_while0b_call3_v1, main_while0b_call3_v2, main_while0b_v81]

/-- They write nothing else. -/
theorem b0_5_writes : (b0_5 : List (HloOp τ sig (Elt F))).Forall fun op => op.writes ⊆ (b0_5_W.map (Proc.devRef (τ := τ) .tc)).toFinset :=
  StableHlo.forall_writes_sub_of_map rfl

/-- The first loop body, stretch 6. -/
abbrev b0_6 : List (HloOp τ sig (Elt F)) :=
  [ StableHlo.nullary main_while0b_cst_21 (constant S_ .f32 0xFF800000#32),
    StableHlo.binary main_while0b_v78 main_while0b_cst_21 main_while0b_v82 ((fun x v => Host.reduce FloatOps.maximumf x v reducesTo_S128x50x50_S128x50_d1 h_S_) : (⟨S128x50x50, .f32⟩ : BufTy).Contents (Elt F) → (⟨S_, .f32⟩ : BufTy).Contents (Elt F) → (⟨S128x50, .f32⟩ : BufTy).Contents (Elt F)) ]

/-- Its operations touch the program's buffers only. -/
theorem b0_6_sub : (b0_6 : List (HloOp τ sig (Elt F))).Forall fun op => op.bufs ⊆ StableHlo.tcRefs τ sig :=
  ⟨StableHlo.nullary_bufs_sub .., StableHlo.binary_bufs_sub ..⟩

/-- They allocate nothing. -/
theorem b0_6_fresh : (b0_6 : List (HloOp τ sig (Elt F))).Forall fun op => op.fresh = ∅ :=
  StableHlo.forall_fresh_of_map rfl

/-- What each writes. -/
abbrev b0_6_W : List (Ref sig .tc) := [main_while0b_cst_21, main_while0b_v82]

/-- They write nothing else. -/
theorem b0_6_writes : (b0_6 : List (HloOp τ sig (Elt F))).Forall fun op => op.writes ⊆ (b0_6_W.map (Proc.devRef (τ := τ) .tc)).toFinset :=
  StableHlo.forall_writes_sub_of_map rfl

/-- The first loop body, stretch 7. -/
abbrev b0_7 : List (HloOp τ sig (Elt F)) :=
  [ StableHlo.TRef.unary (.of main_while0b_v82 : StableHlo.TRef sig ⟨S128x50, .f32⟩) (.of main_while0b_call4_v0 : StableHlo.TRef sig ⟨S1x128x50, .f32⟩) (broadcastInDim S1x128x50 ![1, 2] bcast_S128x50_S1x128x50_1_2),
    StableHlo.TRef.nullary (.of main_while0b_call4_c : StableHlo.TRef sig ⟨S_, .i32⟩) (constantI S_ 32 0#32),
    StableHlo.TRef.nullary (.of main_while0b_call4_c_0 : StableHlo.TRef sig ⟨S_, .i32⟩) (constantI S_ 32 0#32),
    StableHlo.TRef.binaryIndexed (.of main_v16_5 : StableHlo.TRef sig ⟨S511x128x50, .f32⟩) (.of main_while0b_call4_v0 : StableHlo.TRef sig ⟨S1x128x50, .f32⟩) ![(.of main_v16_3 : StableHlo.TRef sig ⟨S_, .i32⟩), (.of main_while0b_call4_c : StableHlo.TRef sig ⟨S_, .i32⟩), (.of main_while0b_call4_c_0 : StableHlo.TRef sig ⟨S_, .i32⟩)] (.of main_while0b_v83 : StableHlo.TRef sig ⟨S511x128x50, .f32⟩) (fun x u i => Host.dynamicUpdateSlice x u (fun k => (i k (Shape.Idx.first h_S_)).toInt) updateFits_S511x128x50_S1x128x50) ]

/-- Its operations touch the program's buffers only. -/
theorem b0_7_sub : (b0_7 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩

/-- They allocate nothing. -/
theorem b0_7_fresh : (b0_7 : List (HloOp τ sig (Elt F))).Forall fun op => op.fresh = ∅ :=
  StableHlo.forall_fresh_of_map rfl

/-- What each writes. -/
abbrev b0_7_W : List (Ref sig .tc) := [main_while0b_call4_v0, main_while0b_call4_c, main_while0b_call4_c_0, main_while0b_v83]

/-- They write nothing else. -/
theorem b0_7_writes : (b0_7 : List (HloOp τ sig (Elt F))).Forall fun op => op.writes ⊆ (b0_7_W.map (Proc.devRef (τ := τ) .tc)).toFinset :=
  StableHlo.forall_writes_sub_of_map rfl

/-- The first loop body, stretch 8. -/
abbrev b0_8 : List (HloOp τ sig (Elt F)) :=
  [ StableHlo.TRef.unary (.of main_while0b_v81 : StableHlo.TRef sig ⟨S128x50, .i32⟩) (.of main_while0b_call5_v0 : StableHlo.TRef sig ⟨S1x128x50, .i32⟩) (broadcastInDim S1x128x50 ![1, 2] bcast_S128x50_S1x128x50_1_2),
    StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.binaryIndexed (.of main_v16_6 : StableHlo.TRef sig ⟨S511x128x50, .i32⟩) (.of main_while0b_call5_v0 : StableHlo.TRef sig ⟨S1x128x50, .i32⟩) ![(.of main_v16_3 : StableHlo.TRef sig ⟨S_, .i32⟩), (.of main_while0b_call5_c : StableHlo.TRef sig ⟨S_, .i32⟩), (.of main_while0b_call5_c_0 : StableHlo.TRef sig ⟨S_, .i32⟩)] (.of main_while0b_v84 : StableHlo.TRef sig ⟨S511x128x50, .i32⟩) (fun x u i => Host.dynamicUpdateSlice x u (fun k => (i k (Shape.Idx.first h_S_)).toInt) updateFits_S511x128x50_S1x128x50) ]

/-- Its operations touch the program's buffers only. -/
theorem b0_8_sub : (b0_8 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩

/-- They allocate nothing. -/
theorem b0_8_fresh : (b0_8 : List (HloOp τ sig (Elt F))).Forall fun op => op.fresh = ∅ :=
  StableHlo.forall_fresh_of_map rfl

/-- What each writes. -/
abbrev b0_8_W : List (Ref sig .tc) := [main_while0b_call5_v0, main_while0b_call5_c, main_while0b_call5_c_0, main_while0b_v84]

/-- They write nothing else. -/
theorem b0_8_writes : (b0_8 : List (HloOp τ sig (Elt F))).Forall fun op => op.writes ⊆ (b0_8_W.map (Proc.devRef (τ := τ) .tc)).toFinset :=
  StableHlo.forall_writes_sub_of_map rfl

/-- The first loop body, stretch 9. -/
abbrev b0_9 : List (HloOp τ sig (Elt F)) :=
  [ StableHlo.nullary main_while0b_c_22 (constantI S_ 32 1#32),
    StableHlo.binary main_v16_3 main_while0b_c_22 main_while0b_v85 (addi : (⟨S_, .i32⟩ : BufTy).Contents (Elt F) → (⟨S_, .i32⟩ : BufTy).Contents (Elt F) → (⟨S_, .i32⟩ : BufTy).Contents (Elt F)),
    StableHlo.unary main_while0b_v85 main_v16_3 id,
    StableHlo.unary main_while0b_v82 main_v16_4 id,
    StableHlo.unary main_while0b_v83 main_v16_5 id,
    StableHlo.unary main_while0b_v84 main_v16_6 id ]

/-- Its operations touch the program's buffers only. -/
theorem b0_9_sub : (b0_9 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩

/-- They allocate nothing. -/
theorem b0_9_fresh : (b0_9 : List (HloOp τ sig (Elt F))).Forall fun op => op.fresh = ∅ :=
  StableHlo.forall_fresh_of_map rfl

/-- What each writes. -/
abbrev b0_9_W : List (Ref sig .tc) := [main_while0b_c_22, main_while0b_v85, main_v16_3, main_v16_4, main_v16_5, main_v16_6]

/-- They write nothing else. -/
theorem b0_9_writes : (b0_9 : List (HloOp τ sig (Elt F))).Forall fun op => op.writes ⊆ (b0_9_W.map (Proc.devRef (τ := τ) .tc)).toFinset :=
  StableHlo.forall_writes_sub_of_map rfl

/-- Between the loops: the last step's scores. -/
abbrev ops1 : List (HloOp τ sig (Elt F)) :=
  [ StableHlo.unary main_v11 main_v17 (broadcastInDim S1x128x50 ![1, 2] bcast_S128x50_S1x128x50_1_2 : (⟨S128x50, .f32⟩ : BufTy).Contents (Elt F) → (⟨S1x128x50, .f32⟩ : BufTy).Contents (Elt F)),
    StableHlo.binary main_v17 main_v16_5 main_v18 ((fun a b => concatenate S512x128x50 0 [⟨S1x128x50, a⟩, ⟨S511x128x50, b⟩] concatenates_S1x128x50_S511x128x50_S512x128x50_d0) : (⟨S1x128x50, .f32⟩ : BufTy).Contents (Elt F) → (⟨S511x128x50, .f32⟩ : BufTy).Contents (Elt F) → (⟨S512x128x50, .f32⟩ : BufTy).Contents (Elt F)),
    StableHlo.nullary main_c_2 (constantI S_ 32 1#32),
    StableHlo.unary main_c_2 main_v19 (broadcastInDim S128 ![] bcast_S_S128 : (⟨S_, .i32⟩ : BufTy).Contents (Elt F) → (⟨S128, .i32⟩ : BufTy).Contents (Elt F)),
    StableHlo.binary main_v1 main_v19 main_v20 (subi : (⟨S128, .i32⟩ : BufTy).Contents (Elt F) → (⟨S128, .i32⟩ : BufTy).Contents (Elt F) → (⟨S128, .i32⟩ : BufTy).Contents (Elt F)),
    StableHlo.nullary main_v21 (iotaInDim S128 32 0),
    StableHlo.nullary main_c_3 (constantI S_ 32 0#32),
    StableHlo.unary main_c_3 main_v22 (broadcastInDim S128 ![] bcast_S_S128 : (⟨S_, .i32⟩ : BufTy).Contents (Elt F) → (⟨S128, .i32⟩ : BufTy).Contents (Elt F)),
    StableHlo.binary main_v20 main_v22 main_v23 (cmpi .slt : (⟨S128, .i32⟩ : BufTy).Contents (Elt F) → (⟨S128, .i32⟩ : BufTy).Contents (Elt F) → (⟨S128, .i1⟩ : BufTy).Contents (Elt F)),
    StableHlo.nullary main_c_4 (constantI S_ 32 512#32),
    StableHlo.unary main_c_4 main_v24 (broadcastInDim S128 ![] bcast_S_S128 : (⟨S_, .i32⟩ : BufTy).Contents (Elt F) → (⟨S128, .i32⟩ : BufTy).Contents (Elt F)),
    StableHlo.binary main_v20 main_v24 main_v25 (addi : (⟨S128, .i32⟩ : BufTy).Contents (Elt F) → (⟨S128, .i32⟩ : BufTy).Contents (Elt F) → (⟨S128, .i32⟩ : BufTy).Contents (Elt F)),
    StableHlo.ternary main_v23 main_v25 main_v20 main_v26 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.nullary main_c_5 (constantI S_ 32 0#32),
    StableHlo.unary main_c_5 main_v27 (broadcastInDim S128 ![] bcast_S_S128 : (⟨S_, .i32⟩ : BufTy).Contents (Elt F) → (⟨S128, .i32⟩ : BufTy).Contents (Elt F)),
    StableHlo.binary main_v21 main_v27 main_v28 (cmpi .slt : (⟨S128, .i32⟩ : BufTy).Contents (Elt F) → (⟨S128, .i32⟩ : BufTy).Contents (Elt F) → (⟨S128, .i1⟩ : BufTy).Contents (Elt F)),
    StableHlo.nullary main_c_6 (constantI S_ 32 128#32),
    StableHlo.unary main_c_6 main_v29 (broadcastInDim S128 ![] bcast_S_S128 : (⟨S_, .i32⟩ : BufTy).Contents (Elt F) → (⟨S128, .i32⟩ : BufTy).Contents (Elt F)),
    StableHlo.binary main_v21 main_v29 main_v30 (addi : (⟨S128, .i32⟩ : BufTy).Contents (Elt F) → (⟨S128, .i32⟩ : BufTy).Contents (Elt F) → (⟨S128, .i32⟩ : BufTy).Contents (Elt F)),
    StableHlo.ternary main_v28 main_v30 main_v21 main_v31 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v26 main_v32 (broadcastInDim S128x1 ![0] bcast_S128_S128x1_0 : (⟨S128, .i32⟩ : BufTy).Contents (Elt F) → (⟨S128x1, .i32⟩ : BufTy).Contents (Elt F)),
    StableHlo.unary main_v31 main_v33 (broadcastInDim S128x1 ![0] bcast_S128_S128x1_0 : (⟨S128, .i32⟩ : BufTy).Contents (Elt F) → (⟨S128x1, .i32⟩ : BufTy).Contents (Elt F)),
    StableHlo.binary main_v32 main_v33 main_v34 ((fun a b => concatenate S128x2 1 [⟨S128x1, a⟩, ⟨S128x1, b⟩] concatenates_S128x1_S128x1_S128x2_d1) : (⟨S128x1, .i32⟩ : BufTy).Contents (Elt F) → (⟨S128x1, .i32⟩ : BufTy).Contents (Elt F) → (⟨S128x2, .i32⟩ : BufTy).Contents (Elt F)),
    StableHlo.binary main_v18 main_v34 main_v35 ((fun x i => Host.gather gather_S512x128x50_S128x2_S128x50_1_01_n_n_01_1_1150 x i) : (⟨S512x128x50, .f32⟩ : BufTy).Contents (Elt F) → (⟨S128x2, .i32⟩ : BufTy).Contents (Elt F) → (⟨S128x50, .f32⟩ : BufTy).Contents (Elt F)),
    StableHlo.unary main_v35 main_v36 (broadcastInDim S128x50x1 ![0, 1] bcast_S128x50_S128x50x1_0_1 : (⟨S128x50, .f32⟩ : BufTy).Contents (Elt F) → (⟨S128x50x1, .f32⟩ : BufTy).Contents (Elt F)),
    StableHlo.unary main_arg2 main_v37 (broadcastInDim S1x50x50 ![1, 2] bcast_S50x50_S1x50x50_1_2 : (⟨S50x50, .f32⟩ : BufTy).Contents (Elt F) → (⟨S1x50x50, .f32⟩ : BufTy).Contents (Elt F)),
    StableHlo.unary main_v36 main_v38 (broadcastInDim S128x50x50 ![0, 1, 2] bcast_S128x50x1_S128x50x50_0_1_2 : (⟨S128x50x1, .f32⟩ : BufTy).Contents (Elt F) → (⟨S128x50x50, .f32⟩ : BufTy).Contents (Elt F)),
    StableHlo.unary main_v37 main_v39 (broadcastInDim S128x50x50 ![0, 1, 2] bcast_S1x50x50_S128x50x50_0_1_2 : (⟨S1x50x50, .f32⟩ : BufTy).Contents (Elt F) → (⟨S128x50x50, .f32⟩ : BufTy).Contents (Elt F)),
    StableHlo.binary main_v38 main_v39 main_v40 (addf : (⟨S128x50x50, .f32⟩ : BufTy).Contents (Elt F) → (⟨S128x50x50, .f32⟩ : BufTy).Contents (Elt F) → (⟨S128x50x50, .f32⟩ : BufTy).Contents (Elt F)) ]

/-- Its operations touch the program's buffers only. -/
theorem ops1_sub : (ops1 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub ..⟩

/-- They allocate nothing. -/
theorem ops1_fresh : (ops1 : List (HloOp τ sig (Elt F))).Forall fun op => op.fresh = ∅ :=
  StableHlo.forall_fresh_of_map rfl

/-- What each writes. -/
abbrev ops1_W : List (Ref sig .tc) := [main_v17, main_v18, main_c_2, main_v19, main_v20, main_v21, main_c_3, main_v22, main_v23, main_c_4, main_v24, main_v25, main_v26, main_c_5, main_v27, main_v28, main_c_6, main_v29, main_v30, main_v31, main_v32, main_v33, main_v34, main_v35, main_v36, main_v37, main_v38, main_v39, main_v40]

/-- They write nothing else. -/
theorem ops1_writes : (ops1 : List (HloOp τ sig (Elt F))).Forall fun op => op.writes ⊆ (ops1_W.map (Proc.devRef (τ := τ) .tc)).toFinset :=
  StableHlo.forall_writes_sub_of_map rfl

/-- Between the loops: the last back pointers. -/
abbrev opsArg : List (HloOp τ sig (Elt F)) :=
  [ StableHlo.TRef.nullary (.of main_call6_v0 : StableHlo.TRef sig ⟨S128x50x50, .i32⟩) (iotaInDim S128x50x50 32 1),
    StableHlo.TRef.nullary (.of main_call6_cst : StableHlo.TRef sig ⟨S_, .f32⟩) (constant S_ .f32 0xFF800000#32),
    StableHlo.TRef.nullary (.of main_call6_c : StableHlo.TRef sig ⟨S_, .i32⟩) (constantI S_ 32 0#32),
    StableHlo.TRef.quaternary (.of main_v40 : StableHlo.TRef sig ⟨S128x50x50, .f32⟩) (.of main_call6_v0 : StableHlo.TRef sig ⟨S128x50x50, .i32⟩) (.of main_call6_cst : StableHlo.TRef sig ⟨S_, .f32⟩) (.of main_call6_c : StableHlo.TRef sig ⟨S_, .i32⟩) (.of main_call6_v1_0 : StableHlo.TRef sig ⟨S128x50, .f32⟩) (fun x y u v j => (Host.argReduce reducer_argmax_f32_i32 x y u v reducesTo_S128x50x50_S128x50_d1 h_S_ j).1),
    StableHlo.TRef.quaternary (.of main_v40 : StableHlo.TRef sig ⟨S128x50x50, .f32⟩) (.of main_call6_v0 : StableHlo.TRef sig ⟨S128x50x50, .i32⟩) (.of main_call6_cst : StableHlo.TRef sig ⟨S_, .f32⟩) (.of main_call6_c : StableHlo.TRef sig ⟨S_, .i32⟩) (.of main_v41 : StableHlo.TRef sig ⟨S128x50, .i32⟩) (fun x y u v j => (Host.argReduce reducer_argmax_f32_i32 x y u v reducesTo_S128x50x50_S128x50_d1 h_S_ j).2) ]

/-- Its operations touch the program's buffers only. -/
theorem opsArg_sub : (opsArg : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

/-- They allocate nothing. -/
theorem opsArg_fresh : (opsArg : List (HloOp τ sig (Elt F))).Forall fun op => op.fresh = ∅ :=
  StableHlo.forall_fresh_of_map rfl

/-- What each writes. -/
abbrev opsArg_W : List (Ref sig .tc) := [main_call6_v0, main_call6_cst, main_call6_c, main_call6_v1_0, main_v41]

/-- They write nothing else. -/
theorem opsArg_writes : (opsArg : List (HloOp τ sig (Elt F))).Forall fun op => op.writes ⊆ (opsArg_W.map (Proc.devRef (τ := τ) .tc)).toFinset :=
  StableHlo.forall_writes_sub_of_map rfl

/-- Between the loops: the pointer decoding starts from. -/
abbrev ops2 : List (HloOp τ sig (Elt F)) :=
  [ StableHlo.unary main_v41 main_v42 ((extractStridedSlice S128x1 ![0, 49] · slices_S128x50_S128x1_0_49) : (⟨S128x50, .i32⟩ : BufTy).Contents (Elt F) → (⟨S128x1, .i32⟩ : BufTy).Contents (Elt F)),
    StableHlo.reshape main_v42 main_v43 (rfl : (.i32 : EltTy) = .i32) shapeCasts_S128x1_S128 ]

/-- Its operations touch the program's buffers only. -/
theorem ops2_sub : (ops2 : List (HloOp τ sig (Elt F))).Forall fun op => op.bufs ⊆ StableHlo.tcRefs τ sig :=
  ⟨StableHlo.unary_bufs_sub .., StableHlo.reshape_bufs_sub ..⟩

/-- They allocate nothing. -/
theorem ops2_fresh : (ops2 : List (HloOp τ sig (Elt F))).Forall fun op => op.fresh = ∅ :=
  StableHlo.forall_fresh_of_map rfl

/-- What each writes. -/
abbrev ops2_W : List (Ref sig .tc) := [main_v42, main_v43]

/-- They write nothing else. -/
theorem ops2_writes : (ops2 : List (HloOp τ sig (Elt F))).Forall fun op => op.writes ⊆ (ops2_W.map (Proc.devRef (τ := τ) .tc)).toFinset :=
  StableHlo.forall_writes_sub_of_map rfl

/-- Between the loops: the back pointer table. -/
abbrev ops3 : List (HloOp τ sig (Elt F)) :=
  [ StableHlo.nullary main_c_7 (constantI S_ 32 0#32),
    StableHlo.unary main_c_7 main_v44 (broadcastInDim S1x128x50 ![] bcast_S_S1x128x50 : (⟨S_, .i32⟩ : BufTy).Contents (Elt F) → (⟨S1x128x50, .i32⟩ : BufTy).Contents (Elt F)),
    StableHlo.binary main_v16_6 main_v44 main_v45 ((fun a b => concatenate S512x128x50 0 [⟨S511x128x50, a⟩, ⟨S1x128x50, b⟩] concatenates_S511x128x50_S1x128x50_S512x128x50_d0) : (⟨S511x128x50, .i32⟩ : BufTy).Contents (Elt F) → (⟨S1x128x50, .i32⟩ : BufTy).Contents (Elt F) → (⟨S512x128x50, .i32⟩ : BufTy).Contents (Elt F)),
    StableHlo.nullary main_v46 (iotaInDim S128 32 0),
    StableHlo.unary main_v43 main_v47 (broadcastInDim S128x1 ![0] bcast_S128_S128x1_0 : (⟨S128, .i32⟩ : BufTy).Contents (Elt F) → (⟨S128x1, .i32⟩ : BufTy).Contents (Elt F)),
    StableHlo.nullary main_c_8 (constantI S_ 32 0#32),
    StableHlo.unary main_c_8 main_v48 (broadcastInDim S128 ![] bcast_S_S128 : (⟨S_, .i32⟩ : BufTy).Contents (Elt F) → (⟨S128, .i32⟩ : BufTy).Contents (Elt F)),
    StableHlo.binary main_v20 main_v48 main_v49 (cmpi .slt : (⟨S128, .i32⟩ : BufTy).Contents (Elt F) → (⟨S128, .i32⟩ : BufTy).Contents (Elt F) → (⟨S128, .i1⟩ : BufTy).Contents (Elt F)),
    StableHlo.nullary main_c_9 (constantI S_ 32 512#32),
    StableHlo.unary main_c_9 main_v50 (broadcastInDim S128 ![] bcast_S_S128 : (⟨S_, .i32⟩ : BufTy).Contents (Elt F) → (⟨S128, .i32⟩ : BufTy).Contents (Elt F)),
    StableHlo.binary main_v20 main_v50 main_v51 (addi : (⟨S128, .i32⟩ : BufTy).Contents (Elt F) → (⟨S128, .i32⟩ : BufTy).Contents (Elt F) → (⟨S128, .i32⟩ : BufTy).Contents (Elt F)),
    StableHlo.ternary main_v49 main_v51 main_v20 main_v52 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.nullary main_c_10 (constantI S_ 32 0#32),
    StableHlo.unary main_c_10 main_v53 (broadcastInDim S128 ![] bcast_S_S128 : (⟨S_, .i32⟩ : BufTy).Contents (Elt F) → (⟨S128, .i32⟩ : BufTy).Contents (Elt F)),
    StableHlo.binary main_v46 main_v53 main_v54 (cmpi .slt : (⟨S128, .i32⟩ : BufTy).Contents (Elt F) → (⟨S128, .i32⟩ : BufTy).Contents (Elt F) → (⟨S128, .i1⟩ : BufTy).Contents (Elt F)),
    StableHlo.nullary main_c_11 (constantI S_ 32 128#32),
    StableHlo.unary main_c_11 main_v55 (broadcastInDim S128 ![] bcast_S_S128 : (⟨S_, .i32⟩ : BufTy).Contents (Elt F) → (⟨S128, .i32⟩ : BufTy).Contents (Elt F)),
    StableHlo.binary main_v46 main_v55 main_v56 (addi : (⟨S128, .i32⟩ : BufTy).Contents (Elt F) → (⟨S128, .i32⟩ : BufTy).Contents (Elt F) → (⟨S128, .i32⟩ : BufTy).Contents (Elt F)),
    StableHlo.ternary main_v54 main_v56 main_v46 main_v57 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v52 main_v58 (broadcastInDim S128x1 ![0] bcast_S128_S128x1_0 : (⟨S128, .i32⟩ : BufTy).Contents (Elt F) → (⟨S128x1, .i32⟩ : BufTy).Contents (Elt F)),
    StableHlo.unary main_v57 main_v59 (broadcastInDim S128x1 ![0] bcast_S128_S128x1_0 : (⟨S128, .i32⟩ : BufTy).Contents (Elt F) → (⟨S128x1, .i32⟩ : BufTy).Contents (Elt F)),
    StableHlo.binary main_v58 main_v59 main_v60 ((fun a b => concatenate S128x2 1 [⟨S128x1, a⟩, ⟨S128x1, b⟩] concatenates_S128x1_S128x1_S128x2_d1) : (⟨S128x1, .i32⟩ : BufTy).Contents (Elt F) → (⟨S128x1, .i32⟩ : BufTy).Contents (Elt F) → (⟨S128x2, .i32⟩ : BufTy).Contents (Elt F)),
    StableHlo.unary main_v47 main_v61 (broadcastInDim S128x50 ![0, 1] bcast_S128x1_S128x50_0_1 : (⟨S128x1, .i32⟩ : BufTy).Contents (Elt F) → (⟨S128x50, .i32⟩ : BufTy).Contents (Elt F)),
    StableHlo.ternary main_v45 main_v60 main_v61 main_v62 ((fun x i u => Host.scatter scatter_S512x128x50_S128x2_S128x50_1_01_01_1 (fun _ b => b) x i u) : (⟨S512x128x50, .i32⟩ : BufTy).Contents (Elt F) → (⟨S128x2, .i32⟩ : BufTy).Contents (Elt F) → (⟨S128x50, .i32⟩ : BufTy).Contents (Elt F) → (⟨S512x128x50, .i32⟩ : BufTy).Contents (Elt F)),
    StableHlo.unary main_v62 main_v63 ((extractStridedSlice S511x128x50 ![0, 0, 0] · slices_S512x128x50_S511x128x50_0_0_0) : (⟨S512x128x50, .i32⟩ : BufTy).Contents (Elt F) → (⟨S511x128x50, .i32⟩ : BufTy).Contents (Elt F)),
    StableHlo.nullary main_c_12 (constantI S_ 32 0#32),
    StableHlo.unary main_c_12 main_v64 (broadcastInDim S511x128 ![] bcast_S_S511x128 : (⟨S_, .i32⟩ : BufTy).Contents (Elt F) → (⟨S511x128, .i32⟩ : BufTy).Contents (Elt F)),
    StableHlo.nullary main_c_13 (constantI S_ 32 0#32),
    StableHlo.unary main_v63 main_v65_0 id,
    StableHlo.unary main_c_13 main_v65_1 id,
    StableHlo.unary main_v43 main_v65_2 id,
    StableHlo.unary main_v64 main_v65_3 id ]

/-- Its operations touch the program's buffers only. -/
theorem ops3_sub : (ops3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.unary_bufs_sub .., StableHlo.ternary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub ..⟩

/-- They allocate nothing. -/
theorem ops3_fresh : (ops3 : List (HloOp τ sig (Elt F))).Forall fun op => op.fresh = ∅ :=
  StableHlo.forall_fresh_of_map rfl

/-- What each writes. -/
abbrev ops3_W : List (Ref sig .tc) := [main_c_7, main_v44, main_v45, main_v46, main_v47, main_c_8, main_v48, main_v49, main_c_9, main_v50, main_v51, main_v52, main_c_10, main_v53, main_v54, main_c_11, main_v55, main_v56, main_v57, main_v58, main_v59, main_v60, main_v61, main_v62, main_v63, main_c_12, main_v64, main_c_13, main_v65_0, main_v65_1, main_v65_2, main_v65_3]

/-- They write nothing else. -/
theorem ops3_writes : (ops3 : List (HloOp τ sig (Elt F))).Forall fun op => op.writes ⊆ (ops3_W.map (Proc.devRef (τ := τ) .tc)).toFinset :=
  StableHlo.forall_writes_sub_of_map rfl

/-- The second loop body, stretch 0. -/
abbrev b1_0 : List (HloOp τ sig (Elt F)) :=
  [ StableHlo.nullary main_while1b_c_17 (constantI S_ 32 511#32),
    StableHlo.binary main_while1b_c_17 main_v65_1 main_while1b_v69 (subi : (⟨S_, .i32⟩ : BufTy).Contents (Elt F) → (⟨S_, .i32⟩ : BufTy).Contents (Elt F) → (⟨S_, .i32⟩ : BufTy).Contents (Elt F)),
    StableHlo.nullary main_while1b_c_18 (constantI S_ 32 1#32),
    StableHlo.binary main_while1b_v69 main_while1b_c_18 main_while1b_v70 (subi : (⟨S_, .i32⟩ : BufTy).Contents (Elt F) → (⟨S_, .i32⟩ : BufTy).Contents (Elt F) → (⟨S_, .i32⟩ : BufTy).Contents (Elt F)) ]

/-- Its operations touch the program's buffers only. -/
theorem b1_0_sub : (b1_0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩

/-- They allocate nothing. -/
theorem b1_0_fresh : (b1_0 : List (HloOp τ sig (Elt F))).Forall fun op => op.fresh = ∅ :=
  StableHlo.forall_fresh_of_map rfl

/-- What each writes. -/
abbrev b1_0_W : List (Ref sig .tc) := [main_while1b_c_17, main_while1b_v69, main_while1b_c_18, main_while1b_v70]

/-- They write nothing else. -/
theorem b1_0_writes : (b1_0 : List (HloOp τ sig (Elt F))).Forall fun op => op.writes ⊆ (b1_0_W.map (Proc.devRef (τ := τ) .tc)).toFinset :=
  StableHlo.forall_writes_sub_of_map rfl

/-- The second loop body, stretch 1. -/
abbrev b1_1 : List (HloOp τ sig (Elt F)) :=
  [ StableHlo.TRef.nullary (.of main_while1b_call7_c : StableHlo.TRef sig ⟨S_, .i32⟩) (constantI S_ 32 0#32),
    StableHlo.TRef.nullary (.of main_while1b_call7_c_0 : StableHlo.TRef sig ⟨S_, .i32⟩) (constantI S_ 32 0#32),
    StableHlo.TRef.unaryIndexed (.of main_v65_0 : StableHlo.TRef sig ⟨S511x128x50, .i32⟩) ![(.of main_while1b_v70 : StableHlo.TRef sig ⟨S_, .i32⟩), (.of main_while1b_call7_c : StableHlo.TRef sig ⟨S_, .i32⟩), (.of main_while1b_call7_c_0 : StableHlo.TRef sig ⟨S_, .i32⟩)] (.of main_while1b_call7_v0 : StableHlo.TRef sig ⟨S1x128x50, .i32⟩) (fun x i => Host.dynamicSlice S1x128x50 x (fun k => (i k (Shape.Idx.first h_S_)).toInt) sliceFits_S511x128x50_S1x128x50),
    StableHlo.TRef.reshape (.of main_while1b_call7_v0 : StableHlo.TRef sig ⟨S1x128x50, .i32⟩) (.of main_while1b_v71 : StableHlo.TRef sig ⟨S128x50, .i32⟩) (rfl : (.i32 : EltTy) = .i32) shapeCasts_S1x128x50_S128x50 ]

/-- Its operations touch the program's buffers only. -/
theorem b1_1_sub : (b1_1 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩

/-- They allocate nothing. -/
theorem b1_1_fresh : (b1_1 : List (HloOp τ sig (Elt F))).Forall fun op => op.fresh = ∅ :=
  StableHlo.forall_fresh_of_map rfl

/-- What each writes. -/
abbrev b1_1_W : List (Ref sig .tc) := [main_while1b_call7_c, main_while1b_call7_c_0, main_while1b_call7_v0, main_while1b_v71]

/-- They write nothing else. -/
theorem b1_1_writes : (b1_1 : List (HloOp τ sig (Elt F))).Forall fun op => op.writes ⊆ (b1_1_W.map (Proc.devRef (τ := τ) .tc)).toFinset :=
  StableHlo.forall_writes_sub_of_map rfl

/-- The second loop body, stretch 2. -/
abbrev b1_2 : List (HloOp τ sig (Elt F)) :=
  [ StableHlo.nullary main_while1b_v72 (iotaInDim S128 32 0),
    StableHlo.nullary main_while1b_c_19 (constantI S_ 32 0#32),
    StableHlo.unary main_while1b_c_19 main_while1b_v73 (broadcastInDim S128 ![] bcast_S_S128 : (⟨S_, .i32⟩ : BufTy).Contents (Elt F) → (⟨S128, .i32⟩ : BufTy).Contents (Elt F)),
    StableHlo.binary main_while1b_v72 main_while1b_v73 main_while1b_v74 (cmpi .slt : (⟨S128, .i32⟩ : BufTy).Contents (Elt F) → (⟨S128, .i32⟩ : BufTy).Contents (Elt F) → (⟨S128, .i1⟩ : BufTy).Contents (Elt F)),
    StableHlo.nullary main_while1b_c_20 (constantI S_ 32 128#32),
    StableHlo.unary main_while1b_c_20 main_while1b_v75 (broadcastInDim S128 ![] bcast_S_S128 : (⟨S_, .i32⟩ : BufTy).Contents (Elt F) → (⟨S128, .i32⟩ : BufTy).Contents (Elt F)),
    StableHlo.binary main_while1b_v72 main_while1b_v75 main_while1b_v76 (addi : (⟨S128, .i32⟩ : BufTy).Contents (Elt F) → (⟨S128, .i32⟩ : BufTy).Contents (Elt F) → (⟨S128, .i32⟩ : BufTy).Contents (Elt F)),
    StableHlo.ternary main_while1b_v74 main_while1b_v76 main_while1b_v72 main_while1b_v77 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.nullary main_while1b_c_21 (constantI S_ 32 0#32),
    StableHlo.unary main_while1b_c_21 main_while1b_v78 (broadcastInDim S128 ![] bcast_S_S128 : (⟨S_, .i32⟩ : BufTy).Contents (Elt F) → (⟨S128, .i32⟩ : BufTy).Contents (Elt F)),
    StableHlo.binary main_v65_2 main_while1b_v78 main_while1b_v79 (cmpi .slt : (⟨S128, .i32⟩ : BufTy).Contents (Elt F) → (⟨S128, .i32⟩ : BufTy).Contents (Elt F) → (⟨S128, .i1⟩ : BufTy).Contents (Elt F)),
    StableHlo.nullary main_while1b_c_22 (constantI S_ 32 50#32),
    StableHlo.unary main_while1b_c_22 main_while1b_v80 (broadcastInDim S128 ![] bcast_S_S128 : (⟨S_, .i32⟩ : BufTy).Contents (Elt F) → (⟨S128, .i32⟩ : BufTy).Contents (Elt F)),
    StableHlo.binary main_v65_2 main_while1b_v80 main_while1b_v81 (addi : (⟨S128, .i32⟩ : BufTy).Contents (Elt F) → (⟨S128, .i32⟩ : BufTy).Contents (Elt F) → (⟨S128, .i32⟩ : BufTy).Contents (Elt F)),
    StableHlo.ternary main_while1b_v79 main_while1b_v81 main_v65_2 main_while1b_v82 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_while1b_v77 main_while1b_v83 (broadcastInDim S128x1 ![0] bcast_S128_S128x1_0 : (⟨S128, .i32⟩ : BufTy).Contents (Elt F) → (⟨S128x1, .i32⟩ : BufTy).Contents (Elt F)),
    StableHlo.unary main_while1b_v82 main_while1b_v84 (broadcastInDim S128x1 ![0] bcast_S128_S128x1_0 : (⟨S128, .i32⟩ : BufTy).Contents (Elt F) → (⟨S128x1, .i32⟩ : BufTy).Contents (Elt F)),
    StableHlo.binary main_while1b_v83 main_while1b_v84 main_while1b_v85 ((fun a b => concatenate S128x2 1 [⟨S128x1, a⟩, ⟨S128x1, b⟩] concatenates_S128x1_S128x1_S128x2_d1) : (⟨S128x1, .i32⟩ : BufTy).Contents (Elt F) → (⟨S128x1, .i32⟩ : BufTy).Contents (Elt F) → (⟨S128x2, .i32⟩ : BufTy).Contents (Elt F)),
    StableHlo.binary main_while1b_v71 main_while1b_v85 main_while1b_v86 ((fun x i => Host.gather gather_S128x50_S128x2_S128_n_01_n_n_01_1_11 x i) : (⟨S128x50, .i32⟩ : BufTy).Contents (Elt F) → (⟨S128x2, .i32⟩ : BufTy).Contents (Elt F) → (⟨S128, .i32⟩ : BufTy).Contents (Elt F)) ]

/-- Its operations touch the program's buffers only. -/
theorem b1_2_sub : (b1_2 : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub ..⟩

/-- They allocate nothing. -/
theorem b1_2_fresh : (b1_2 : List (HloOp τ sig (Elt F))).Forall fun op => op.fresh = ∅ :=
  StableHlo.forall_fresh_of_map rfl

/-- What each writes. -/
abbrev b1_2_W : List (Ref sig .tc) := [main_while1b_v72, main_while1b_c_19, main_while1b_v73, main_while1b_v74, main_while1b_c_20, main_while1b_v75, main_while1b_v76, main_while1b_v77, main_while1b_c_21, main_while1b_v78, main_while1b_v79, main_while1b_c_22, main_while1b_v80, main_while1b_v81, main_while1b_v82, main_while1b_v83, main_while1b_v84, main_while1b_v85, main_while1b_v86]

/-- They write nothing else. -/
theorem b1_2_writes : (b1_2 : List (HloOp τ sig (Elt F))).Forall fun op => op.writes ⊆ (b1_2_W.map (Proc.devRef (τ := τ) .tc)).toFinset :=
  StableHlo.forall_writes_sub_of_map rfl

/-- The second loop body, stretch 3. -/
abbrev b1_3 : List (HloOp τ sig (Elt F)) :=
  [ StableHlo.TRef.unary (.of main_while1b_v86 : StableHlo.TRef sig ⟨S128, .i32⟩) (.of main_while1b_call8_v0 : StableHlo.TRef sig ⟨S1x128, .i32⟩) (broadcastInDim S1x128 ![1] bcast_S128_S1x128_1),
    StableHlo.TRef.nullary (.of main_while1b_call8_c : StableHlo.TRef sig ⟨S_, .i32⟩) (constantI S_ 32 0#32),
    StableHlo.TRef.binaryIndexed (.of main_v65_3 : StableHlo.TRef sig ⟨S511x128, .i32⟩) (.of main_while1b_call8_v0 : StableHlo.TRef sig ⟨S1x128, .i32⟩) ![(.of main_while1b_v70 : StableHlo.TRef sig ⟨S_, .i32⟩), (.of main_while1b_call8_c : StableHlo.TRef sig ⟨S_, .i32⟩)] (.of main_while1b_v87 : StableHlo.TRef sig ⟨S511x128, .i32⟩) (fun x u i => Host.dynamicUpdateSlice x u (fun k => (i k (Shape.Idx.first h_S_)).toInt) updateFits_S511x128_S1x128) ]

/-- Its operations touch the program's buffers only. -/
theorem b1_3_sub : (b1_3 : List (HloOp τ sig (Elt F))).Forall fun op => op.bufs ⊆ StableHlo.tcRefs τ sig :=
  ⟨StableHlo.unary_bufs_sub .., StableHlo.nullary_bufs_sub .., StableHlo.binaryIndexed_bufs_sub ..⟩

/-- They allocate nothing. -/
theorem b1_3_fresh : (b1_3 : List (HloOp τ sig (Elt F))).Forall fun op => op.fresh = ∅ :=
  StableHlo.forall_fresh_of_map rfl

/-- What each writes. -/
abbrev b1_3_W : List (Ref sig .tc) := [main_while1b_call8_v0, main_while1b_call8_c, main_while1b_v87]

/-- They write nothing else. -/
theorem b1_3_writes : (b1_3 : List (HloOp τ sig (Elt F))).Forall fun op => op.writes ⊆ (b1_3_W.map (Proc.devRef (τ := τ) .tc)).toFinset :=
  StableHlo.forall_writes_sub_of_map rfl

/-- The second loop body, stretch 4. -/
abbrev b1_4 : List (HloOp τ sig (Elt F)) :=
  [ StableHlo.nullary main_while1b_c_23 (constantI S_ 32 1#32),
    StableHlo.binary main_v65_1 main_while1b_c_23 main_while1b_v88 (addi : (⟨S_, .i32⟩ : BufTy).Contents (Elt F) → (⟨S_, .i32⟩ : BufTy).Contents (Elt F) → (⟨S_, .i32⟩ : BufTy).Contents (Elt F)),
    StableHlo.unary main_while1b_v88 main_v65_1 id,
    StableHlo.unary main_while1b_v86 main_v65_2 id,
    StableHlo.unary main_while1b_v87 main_v65_3 id ]

/-- Its operations touch the program's buffers only. -/
theorem b1_4_sub : (b1_4 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩

/-- They allocate nothing. -/
theorem b1_4_fresh : (b1_4 : List (HloOp τ sig (Elt F))).Forall fun op => op.fresh = ∅ :=
  StableHlo.forall_fresh_of_map rfl

/-- What each writes. -/
abbrev b1_4_W : List (Ref sig .tc) := [main_while1b_c_23, main_while1b_v88, main_v65_1, main_v65_2, main_v65_3]

/-- They write nothing else. -/
theorem b1_4_writes : (b1_4 : List (HloOp τ sig (Elt F))).Forall fun op => op.writes ⊆ (b1_4_W.map (Proc.devRef (τ := τ) .tc)).toFinset :=
  StableHlo.forall_writes_sub_of_map rfl

/-- The operations after the second loop. -/
abbrev ops4 : List (HloOp τ sig (Elt F)) :=
  [ StableHlo.unary main_v43 main_v66 (broadcastInDim S1x128 ![1] bcast_S128_S1x128_1 : (⟨S128, .i32⟩ : BufTy).Contents (Elt F) → (⟨S1x128, .i32⟩ : BufTy).Contents (Elt F)),
    StableHlo.binary main_v65_3 main_v66 main_v67 ((fun a b => concatenate S512x128 0 [⟨S511x128, a⟩, ⟨S1x128, b⟩] concatenates_S511x128_S1x128_S512x128_d0) : (⟨S511x128, .i32⟩ : BufTy).Contents (Elt F) → (⟨S1x128, .i32⟩ : BufTy).Contents (Elt F) → (⟨S512x128, .i32⟩ : BufTy).Contents (Elt F)),
    StableHlo.unary main_v67 main_v68 ((transpose S128x512 [1, 0] · transposes_S512x128_S128x512_1_0) : (⟨S512x128, .i32⟩ : BufTy).Contents (Elt F) → (⟨S128x512, .i32⟩ : BufTy).Contents (Elt F)) ]

/-- Its operations touch the program's buffers only. -/
theorem ops4_sub : (ops4 : List (HloOp τ sig (Elt F))).Forall fun op => op.bufs ⊆ StableHlo.tcRefs τ sig :=
  ⟨StableHlo.unary_bufs_sub .., StableHlo.binary_bufs_sub .., StableHlo.unary_bufs_sub ..⟩

/-- They allocate nothing. -/
theorem ops4_fresh : (ops4 : List (HloOp τ sig (Elt F))).Forall fun op => op.fresh = ∅ :=
  StableHlo.forall_fresh_of_map rfl

/-- What each writes. -/
abbrev ops4_W : List (Ref sig .tc) := [main_v66, main_v67, main_v68]

/-- They write nothing else. -/
theorem ops4_writes : (ops4 : List (HloOp τ sig (Elt F))).Forall fun op => op.writes ⊆ (ops4_W.map (Proc.devRef (τ := τ) .tc)).toFinset :=
  StableHlo.forall_writes_sub_of_map rfl

/-- Loop 0's condition. -/
abbrev cond0 : List (HloOp τ sig (Elt F)) :=
  [ StableHlo.nullary main_while0c_c_20 (constantI S_ 32 511#32),
    StableHlo.binary main_v16_3 main_while0c_c_20 main_while0c_v69 (cmpi .slt : (⟨S_, .i32⟩ : BufTy).Contents (Elt F) → (⟨S_, .i32⟩ : BufTy).Contents (Elt F) → (⟨S_, .i1⟩ : BufTy).Contents (Elt F)) ]

/-- Its operations touch the program's buffers only. -/
theorem cond0_sub : (cond0 : List (HloOp τ sig (Elt F))).Forall fun op => op.bufs ⊆ StableHlo.tcRefs τ sig :=
  ⟨StableHlo.nullary_bufs_sub .., StableHlo.binary_bufs_sub ..⟩

/-- They allocate nothing. -/
theorem cond0_fresh : (cond0 : List (HloOp τ sig (Elt F))).Forall fun op => op.fresh = ∅ :=
  StableHlo.forall_fresh_of_map rfl

/-- What each writes. -/
abbrev cond0_W : List (Ref sig .tc) := [main_while0c_c_20, main_while0c_v69]

/-- They write nothing else. -/
theorem cond0_writes : (cond0 : List (HloOp τ sig (Elt F))).Forall fun op => op.writes ⊆ (cond0_W.map (Proc.devRef (τ := τ) .tc)).toFinset :=
  StableHlo.forall_writes_sub_of_map rfl

/-- Loop 1's condition. -/
abbrev cond1 : List (HloOp τ sig (Elt F)) :=
  [ StableHlo.nullary main_while1c_c_17 (constantI S_ 32 511#32),
    StableHlo.binary main_v65_1 main_while1c_c_17 main_while1c_v69 (cmpi .slt : (⟨S_, .i32⟩ : BufTy).Contents (Elt F) → (⟨S_, .i32⟩ : BufTy).Contents (Elt F) → (⟨S_, .i1⟩ : BufTy).Contents (Elt F)) ]

/-- Its operations touch the program's buffers only. -/
theorem cond1_sub : (cond1 : List (HloOp τ sig (Elt F))).Forall fun op => op.bufs ⊆ StableHlo.tcRefs τ sig :=
  ⟨StableHlo.nullary_bufs_sub .., StableHlo.binary_bufs_sub ..⟩

/-- They allocate nothing. -/
theorem cond1_fresh : (cond1 : List (HloOp τ sig (Elt F))).Forall fun op => op.fresh = ∅ :=
  StableHlo.forall_fresh_of_map rfl

/-- What each writes. -/
abbrev cond1_W : List (Ref sig .tc) := [main_while1c_c_17, main_while1c_v69]

/-- They write nothing else. -/
theorem cond1_writes : (cond1 : List (HloOp τ sig (Elt F))).Forall fun op => op.writes ⊆ (cond1_W.map (Proc.devRef (τ := τ) .tc)).toFinset :=
  StableHlo.forall_writes_sub_of_map rfl

set_option maxRecDepth 100000 in
/-- The program as the chain of its stretches and loops. -/
theorem body0_chain : main_while0_body (F := F) = (Pipeline.chain
  [ StableHlo.seq b0_0,
    StableHlo.seq b0_1,
    StableHlo.seq b0_2,
    StableHlo.seq b0_3,
    StableHlo.seq b0_4,
    StableHlo.seq b0_5,
    StableHlo.seq b0_6,
    StableHlo.seq b0_7,
    StableHlo.seq b0_8,
    StableHlo.seq b0_9 ] : Prog (TpuEff nD τ sig (Elt F) (HostLoop.Sig (Pipeline.Sig Λ₀ (Fin 0) fun p => (pcfgs (F := F) p).Adm) 2) .tc) PUnit) := by
  rewrite [Pipeline.chain_cons, Pipeline.chain_cons, StableHlo.chain_seq_cons, Pipeline.chain_cons, StableHlo.chain_seq_cons, Pipeline.chain_cons, StableHlo.chain_seq_cons, Pipeline.chain_cons, Pipeline.chain_cons, StableHlo.chain_seq_cons]
  chain_rfl

set_option maxRecDepth 100000 in
/-- The program as the chain of its stretches and loops. -/
theorem body1_chain : main_while1_body (F := F) = (Pipeline.chain
  [ StableHlo.seq b1_0,
    StableHlo.seq b1_1,
    StableHlo.seq b1_2,
    StableHlo.seq b1_3,
    StableHlo.seq b1_4 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, Pipeline.chain_cons, StableHlo.chain_seq_cons]
  chain_rfl

/-- The stretches before, between and after the loops, and the bodies'. -/
abbrev preI : List (List (HloOp τ sig (Elt F))) := [ops0]
/-- Between the loops. -/
abbrev midI : List (List (HloOp τ sig (Elt F))) := [ops1, opsArg, ops2, ops3]
/-- After the loops. -/
abbrev postI : List (List (HloOp τ sig (Elt F))) := [ops4]
/-- The first body. -/
abbrev body0I : List (List (HloOp τ sig (Elt F))) := [b0_0, b0_1, b0_2, b0_3, b0_4, b0_5, b0_6, b0_7, b0_8, b0_9]
/-- The second body. -/
abbrev body1I : List (List (HloOp τ sig (Elt F))) := [b1_0, b1_1, b1_2, b1_3, b1_4]

/-- Plain operations only. -/
theorem preI_plain : Plain (preI (F := F)) := .cons ops0_sub (hf := List.forall_iff_forall_mem.mp ops0_fresh) (.nil)

/-- Plain operations only. -/
theorem midI_plain : Plain (midI (F := F)) := .cons ops1_sub (hf := List.forall_iff_forall_mem.mp ops1_fresh) (.cons opsArg_sub (hf := List.forall_iff_forall_mem.mp opsArg_fresh) (.cons ops2_sub (hf := List.forall_iff_forall_mem.mp ops2_fresh) (.cons ops3_sub (hf := List.forall_iff_forall_mem.mp ops3_fresh) (.nil))))

/-- Plain operations only. -/
theorem postI_plain : Plain (postI (F := F)) := .cons ops4_sub (hf := List.forall_iff_forall_mem.mp ops4_fresh) (.nil)

/-- Plain operations only. -/
theorem body0I_plain : Plain (body0I (F := F)) := .cons b0_0_sub (hf := List.forall_iff_forall_mem.mp b0_0_fresh) (.cons b0_1_sub (hf := List.forall_iff_forall_mem.mp b0_1_fresh) (.cons b0_2_sub (hf := List.forall_iff_forall_mem.mp b0_2_fresh) (.cons b0_3_sub (hf := List.forall_iff_forall_mem.mp b0_3_fresh) (.cons b0_4_sub (hf := List.forall_iff_forall_mem.mp b0_4_fresh) (.cons b0_5_sub (hf := List.forall_iff_forall_mem.mp b0_5_fresh) (.cons b0_6_sub (hf := List.forall_iff_forall_mem.mp b0_6_fresh) (.cons b0_7_sub (hf := List.forall_iff_forall_mem.mp b0_7_fresh) (.cons b0_8_sub (hf := List.forall_iff_forall_mem.mp b0_8_fresh) (.cons b0_9_sub (hf := List.forall_iff_forall_mem.mp b0_9_fresh) (.nil))))))))))

/-- Plain operations only. -/
theorem body1I_plain : Plain (body1I (F := F)) := .cons b1_0_sub (hf := List.forall_iff_forall_mem.mp b1_0_fresh) (.cons b1_1_sub (hf := List.forall_iff_forall_mem.mp b1_1_fresh) (.cons b1_2_sub (hf := List.forall_iff_forall_mem.mp b1_2_fresh) (.cons b1_3_sub (hf := List.forall_iff_forall_mem.mp b1_3_fresh) (.cons b1_4_sub (hf := List.forall_iff_forall_mem.mp b1_4_fresh) (.nil)))))

set_option maxRecDepth 100000 in
/-- The program as the chain of its stretches and loops. -/
theorem main_chain (c : Dev nD) : main (F := F) c = (Pipeline.chain
  [ StableHlo.seq ops0,
    HostLoop.enter 0,
    StableHlo.seq ops1,
    StableHlo.seq opsArg,
    StableHlo.seq ops2,
    StableHlo.seq ops3,
    HostLoop.enter 1,
    StableHlo.seq ops4 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, Pipeline.chain_cons, StableHlo.chain_seq_cons, StableHlo.chain_seq_cons, Pipeline.chain_cons, StableHlo.chain_seq_cons]
  chain_rfl

end Cert.ReferenceIdeal.Run

end
-- ==== Proof.TwoLoops.lean ====
/-
The run of a program over host operations only that has two counted loops, one after the other, with stretches of
operations before, between and after them.
-/
module

public import Idealize.ShloMosaic.Lib.StableHlo.RunLoop

@[expose] public section

noncomputable section

namespace Cert.TwoLoops

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (CSeg Ticket PCfg ucRefs unscopedBufs_held sub_ucRefs)

variable {nD : Nat} {τ : Topo} {sig : RefSig} {F : FTy → Type} {Λ₀ : Idealize.SL.Sem.Labels}

local notation "𝕄" => MT nD τ sig Unit (Elt F) ℕ (Option PUnit) ℕ

variable (pcs : Fin 0 → PCfg sig Λ₀ (Elt F)) (defs₀ : Defs nD τ sig (Elt F) Λ₀) {nL : Nat}
  (loops : Fin nL → Prog (TpuEff nD τ sig (Elt F) (HostLoop.Sig (Pipeline.Sig Λ₀ (Fin 0) fun p => (pcs p).Adm) nL) .tc) PUnit)

/-- There is no pipeline, so nothing to admit, -/
abbrev noAdm : (p : Fin 0) → (pcs p).Adm := fun p => p.elim0
/-- no ticket, -/
abbrev noTicket : Fin 0 → Ticket (Ix := Unit) (Name := ℕ) (U := Option PUnit) (Lvl := ℕ) (nD := nD) (τ := τ) pcs (noAdm pcs) :=
  fun j => j.elim0
/-- no index at a semaphore -/
abbrev noIx : GSem nD τ sig → Finset Unit := fun _ => ∅
/-- and no level. -/
abbrev noLvl : GSem nD τ sig → Unit → ℕ := fun _ _ => 0

/-- The cells' map is injective, there being none. -/
theorem cells_inj : Function.Injective (Pipeline.cellOf (nD := nD) (τ := τ) (Pipeline.pin pcs (noAdm pcs))) := fun k => k.1.elim0

/-- What rides beside the buffers: that the core owes nothing. -/
abbrev Beside (c : Dev nD) : sProp 𝕄 := iprop(∃ W, owes (c : Thread nD τ) (0 : CellTallies nD τ sig Unit) W)

variable {pcs defs₀ loops}

/-- A condition specified over the buffers alone is specified with what rides beside them. -/
theorem cond_beside {cond : Prog (TpuEff nD τ sig (Elt F) (HostLoop.Sig (Pipeline.Sig Λ₀ (Fin 0) fun p => (pcs p).Adm) nL) .tc) (Elt F .i1)}
    {condOps : List (HloOp τ sig (Elt F))} {bodyI : List (List (HloOp τ sig (Elt F)))} {W₀ : Dev nD → Valuation τ sig (Elt F)} {n : ℕ}
    (h : CondSpec pcs defs₀ loops cond condOps bodyI W₀ n) :
    LoopCond pcs defs₀ Variants.none loops Beside cond condOps bodyI W₀ n := fun k hk c bd => by
  have hpost : ∀ v : Elt F .i1,
      iprop(iprop(⌜v = 1#1 ↔ k < n⌝ ∗ boundary (c : Thread nD τ)
          ∗ held (c : Thread nD τ) (ucRefs τ sig) (after condOps (atTrip condOps bodyI W₀ k c))) ∗ Beside c)
        ⊢ iprop(⌜v = 1#1 ↔ k < n⌝ ∗ boundary (c : Thread nD τ)
          ∗ held (c : Thread nD τ) (ucRefs τ sig) (after condOps (atTrip condOps bodyI W₀ k c)) ∗ Beside c) := fun v => by
    iintro ⟨⟨%hv, Hb, Hh⟩, HR⟩
    isplitr; · ipureintro; exact hv
    isplitl [Hb]; · iexact Hb
    isplitl [Hh] <;> iassumption
  refine BIBase.Entails.trans ?_ (((sep_mono_left (h k hk c bd)).trans (wp_frame_r _ _ _)).trans (wp_mono _ _ _ hpost))
  iintro ⟨Hb, Hh, HR⟩
  isplitl [Hb Hh]; · isplitl [Hb] <;> iassumption
  iexact HR

variable (l₀ l₁ : Fin nL)
  (cond₀ cond₁ : Prog (TpuEff nD τ sig (Elt F) (HostLoop.Sig (Pipeline.Sig Λ₀ (Fin 0) fun p => (pcs p).Adm) nL) .tc) (Elt F .i1))
  (body₀ body₁ : Prog (TpuEff nD τ sig (Elt F) (HostLoop.Sig (Pipeline.Sig Λ₀ (Fin 0) fun p => (pcs p).Adm) nL) .tc) PUnit)
  (hl₀ : loops l₀ = HostLoop.step l₀ cond₀ body₀) (hl₁ : loops l₁ = HostLoop.step l₁ cond₁ body₁)
  (c₀ c₁ : List (HloOp τ sig (Elt F))) (preI b₀ midI b₁ postI : List (List (HloOp τ sig (Elt F))))
  (hpre : Plain preI) (hb₀ : Plain b₀) (hmid : Plain midI) (hb₁ : Plain b₁) (hpost : Plain postI)
  (hbody₀ : body₀ = Pipeline.chain (b₀.map fun ops => (seq ops : Prog _ PUnit)))
  (hbody₁ : body₁ = Pipeline.chain (b₁.map fun ops => (seq ops : Prog _ PUnit)))
  (n₀ n₁ : ℕ) (m : (ℓ : Loc nD τ sig) → Buf (Elt F) ℓ)

/-- The buffers when the first loop is entered, -/
abbrev enter₀ (c : Dev nD) : Valuation τ sig (Elt F) := afterL preI (launchContents m c)
/-- when it is left, -/
abbrev leave₀ (c : Dev nD) : Valuation τ sig (Elt F) := after c₀ (atTrip c₀ b₀ (enter₀ preI m) n₀ c)
/-- when the second is entered, -/
abbrev enter₁ (c : Dev nD) : Valuation τ sig (Elt F) := afterL midI (leave₀ c₀ preI b₀ n₀ m c)
/-- when it is left, -/
abbrev leave₁ (c : Dev nD) : Valuation τ sig (Elt F) := after c₁ (atTrip c₁ b₁ (enter₁ c₀ preI b₀ midI n₀ m) n₁ c)
/-- and at the end. -/
abbrev atEnd (c : Dev nD) : Valuation τ sig (Elt F) := afterL postI (leave₁ c₀ c₁ preI b₀ midI b₁ n₀ n₁ m c)

/-- The program's segments. -/
def segments (h₀ : CondSpec pcs defs₀ loops cond₀ c₀ b₀ (enter₀ preI m) n₀)
    (h₁ : CondSpec pcs defs₀ loops cond₁ c₁ b₁ (enter₁ c₀ preI b₀ midI n₀ m) n₁) :
    List (CSeg pcs (noAdm pcs) defs₀ Variants.none noIx noLvl loops (noTicket pcs)) :=
  segsOf _ _ _ _ _ _ _ _ Beside preI hpre (launchContents m)
    ++ loopSeg _ _ _ _ _ _ _ _ l₀ cond₀ body₀ hl₀ c₀ b₀ hb₀ hbody₀ n₀ (enter₀ preI m) Beside (cond_beside h₀)
      :: (segsOf _ _ _ _ _ _ _ _ Beside midI hmid (leave₀ c₀ preI b₀ n₀ m)
        ++ loopSeg _ _ _ _ _ _ _ _ l₁ cond₁ body₁ hl₁ c₁ b₁ hb₁ hbody₁ n₁ (enter₁ c₀ preI b₀ midI n₀ m) Beside (cond_beside h₁)
          :: segsOf _ _ _ _ _ _ _ _ Beside postI hpost (leave₁ c₀ c₁ preI b₀ midI b₁ n₀ n₁ m))

/-- The segments, in order, are the program's stretches and loops. -/
theorem segments_prog (h₀) (h₁) :
    (segments (pcs := pcs) (defs₀ := defs₀) (loops := loops) l₀ l₁ cond₀ cond₁ body₀ body₁ hl₀ hl₁ c₀ c₁ preI b₀ midI b₁ postI
        hpre hb₀ hmid hb₁ hpost hbody₀ hbody₁ n₀ n₁ m h₀ h₁).map CSeg.prog
      = (preI.map fun ops => (seq ops : Prog _ PUnit)) ++ HostLoop.enter l₀ :: ((midI.map fun ops => (seq ops : Prog _ PUnit))
        ++ HostLoop.enter l₁ :: postI.map fun ops => (seq ops : Prog _ PUnit)) := by
  unfold segments
  rw [List.map_append, List.map_cons, List.map_append, List.map_cons, segsOf_prog, segsOf_prog, segsOf_prog]
  rfl

/-- The segments chain from the launch contents to the end. -/
theorem segments_chains (h₀) (h₁) :
    CSeg.Chains (fun c => iprop(held (c : Thread nD τ) (ucRefs τ sig) (launchContents m c) ∗ Beside c))
      (segments (pcs := pcs) (defs₀ := defs₀) (loops := loops) l₀ l₁ cond₀ cond₁ body₀ body₁ hl₀ hl₁ c₀ c₁ preI b₀ midI b₁ postI
        hpre hb₀ hmid hb₁ hpost hbody₀ hbody₁ n₀ n₁ m h₀ h₁)
      (fun c => iprop(iprop(held (c : Thread nD τ) (ucRefs τ sig) (atEnd c₀ c₁ preI b₀ midI b₁ postI n₀ n₁ m c))
        ∗ ∃ W, owes (c : Thread nD τ) (0 : CellTallies nD τ sig Unit) W)) := by
  unfold segments
  exact CSeg.Chains.append (segsOf_chains _ _ _ _ _ _ _ _ Beside preI hpre _)
    ⟨fun _ => .rfl, CSeg.Chains.append (segsOf_chains _ _ _ _ _ _ _ _ Beside midI hmid _)
      ⟨fun _ => .rfl, segsOf_chains _ _ _ _ _ _ _ _ Beside postI hpost _⟩⟩

include hl₀ hl₁ hpre hb₀ hmid hb₁ hpost hbody₀ hbody₁ in
/-- THE RUN: every execution ends, and every buffer of the program then holds what the fold of its operations leaves. -/
theorem run [∀ e, Nonempty (Elt F e)]
    (main : Dev nD → Prog (TpuEff nD τ sig (Elt F) (HostLoop.Sig (Pipeline.Sig Λ₀ (Fin 0) fun p => (pcs p).Adm) nL) .tc) PUnit)
    (hmain : ∀ c, main c = Pipeline.chain ((preI.map fun ops => (seq ops : Prog _ PUnit)) ++ HostLoop.enter l₀
      :: ((midI.map fun ops => (seq ops : Prog _ PUnit)) ++ HostLoop.enter l₁ :: postI.map fun ops => (seq ops : Prog _ PUnit))))
    (ρ : Dev nD → PrngReg) (h₀ : CondSpec pcs defs₀ loops cond₀ c₀ b₀ (enter₀ preI m) n₀)
    (h₁ : CondSpec pcs defs₀ loops cond₁ c₁ b₁ (enter₁ c₀ preI b₀ midI n₀ m) n₁) :
    θ_run (HostLoop.defs loops (Pipeline.defs pcs defs₀)) (onTc (τ := τ) main) ⟨m, fun _ => 0, ρ⟩
      (fun r => ∀ (c : Dev nD) (b : Ref sig .tc), (Proc.devRef .tc b : DevRef τ sig).isScoped = false →
        r.2.mem ((c.tc : Thread nD τ).loc b) = atEnd c₀ c₁ preI b₀ midI b₁ postI n₀ n₁ m c (Proc.devRef .tc b)) :=
  Pipeline.θ_run_regions_loop_kit (Ix := Unit) (Name := ℕ) (U := Option PUnit) (Lvl := ℕ) (J := Fin 0) (P := Fin 0) (Val := Elt F)
    pcs (noAdm pcs) (cells_inj pcs) defs₀ Variants.none noIx noLvl loops (noTicket pcs) m ρ main
    (segments l₀ l₁ cond₀ cond₁ body₀ body₁ hl₀ hl₁ c₀ c₁ preI b₀ midI b₁ postI hpre hb₀ hmid hb₁ hpost hbody₀ hbody₁ n₀ n₁ m h₀ h₁)
    (fun c Q => by
      rw [hmain c]
      show wp _ _ _ (Pipeline.chain ((segments l₀ l₁ cond₀ cond₁ body₀ body₁ hl₀ hl₁ c₀ c₁ preI b₀ midI b₁ postI
        hpre hb₀ hmid hb₁ hpost hbody₀ hbody₁ n₀ n₁ m h₀ h₁).map CSeg.prog)) Q ⊢ _
      rw [segments_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ))
            ⊢ bigSep Finset.univ (fun _ : Dev nD => (BI.emp : sProp (MT nD τ sig Unit (Elt F) ℕ (Option PUnit) ℕ))) from by
          rw [BI.bigSep_emp_const])
        iempintro)
    (T₀ := fun c => iprop(held (c : Thread nD τ) (ucRefs τ sig) (launchContents m c) ∗ Beside c))
    (Tₙ := fun c => iprop(held (c : Thread nD τ) (ucRefs τ sig) (atEnd c₀ c₁ preI b₀ midI b₁ postI n₀ n₁ m c)))
    (hch := segments_chains _ _ _ _ _ _ _ _ _ _ _ _ _ _ _ _ _ _ _ _ _ _ _ _ _ h₀ h₁)
    (hinit := by
      refine Pipeline.initEach noIx noLvl fun c => ?_
      rw [show unscopedBufs c (fun b => m ((c : Thread nD τ).loc b)) = held (c : Thread nD τ) (ucRefs τ sig) (launchContents m c)
        from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = atEnd c₀ c₁ preI b₀ midI b₁ postI n₀ n₁ m c b)
    (hfin := fun c s' => by
      unfold held
      iintro ⟨Hh, HSI⟩
      ihave Hr := (pointsTo_read_all (ucRefs τ sig) (fun b => ((c : Dev nD), b))
        (fun b => atEnd c₀ c₁ preI b₀ midI b₁ postI n₀ n₁ m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.TwoLoops

end
-- ==== Proof.RefRun.lean ====
/-
The reference program run: both loops make 511 trips, every execution ends, and every buffer ends at the fold of the
program's operations; the frame claim follows, at any float values.
-/
module

public import proofs.«01_k».proof.Proof.RefOps
public import proofs.«01_k».proof.Proof.TwoLoops
public import Idealize.ShloMosaic.Lib.Claim

@[expose] public section

noncomputable section

namespace Cert.ReferenceIdeal.Run

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F] (m : (ℓ : Loc nD τ sig) → Buf (Elt F) ℓ) (ρ : Dev nD → PrngReg)

/-- The buffers when the first loop is entered. -/
abbrev start0 : Dev nD → Valuation τ sig (Elt F) := TwoLoops.enter₀ preI m
/-- The buffers before the first loop's `k`-th condition. -/
abbrev at0 (k : ℕ) (c : Dev nD) : Valuation τ sig (Elt F) := atTrip cond0 body0I (start0 m) k c
/-- The buffers when the second loop is entered. -/
abbrev start1 : Dev nD → Valuation τ sig (Elt F) := TwoLoops.enter₁ cond0 preI body0I midI 511 m
/-- The buffers before the second loop's `k`-th condition. -/
abbrev at1 (k : ℕ) (c : Dev nD) : Valuation τ sig (Elt F) := atTrip cond1 body1I (start1 m) k c
/-- The buffers at the end. -/
abbrev final (c : Dev nD) : Valuation τ sig (Elt F) := TwoLoops.atEnd cond0 cond1 preI body0I midI body1I postI 511 511 m c

set_option maxRecDepth 100000 in
/-- The first counter starts at zero. -/
theorem counter0_start (c : Dev nD) : start0 m c (Proc.devRef .tc main_v16_3) = fun _ => (0#32 : BitVec 32) := by
  simp only [start0, TwoLoops.enter₀, afterL_cons, afterL_nil]
  after_reads_simp
  rfl

set_option maxRecDepth 100000 in
/-- The first body's last stretch steps the counter. -/
theorem counter0_step (X : Valuation τ sig (Elt F)) :
    after b0_9 X (Proc.devRef .tc main_v16_3) = addi (X (Proc.devRef .tc main_v16_3)) (constantI S_ 32 1#32) := by
  after_results
  rfl

/-- A buffer that none of the first loop's stretches before the last writes is as the condition found it. -/
theorem through0 (X : Valuation τ sig (Elt F)) (b : Ref sig .tc)
    (h : ∀ W ∈ ([cond0_W, b0_0_W, b0_1_W, b0_2_W, b0_3_W, b0_4_W, b0_5_W, b0_6_W, b0_7_W, b0_8_W] : List (List (Ref sig .tc))),
      b ∉ W) :
    after b0_8 (after b0_7 (after b0_6 (after b0_5 (after b0_4 (after b0_3 (after b0_2 (after b0_1 (after b0_0 (after cond0 X)))))))))
      (Proc.devRef .tc b) = X (Proc.devRef .tc b) := by
  rw [after_of_writes_sub b0_8 _ b0_8_writes (h b0_8_W (by with_reducible (repeat (first | exact List.mem_cons_self | apply List.mem_cons_of_mem)))), after_of_writes_sub b0_7 _ b0_7_writes (h b0_7_W (by with_reducible (repeat (first | exact List.mem_cons_self | apply List.mem_cons_of_mem)))),
    after_of_writes_sub b0_6 _ b0_6_writes (h b0_6_W (by with_reducible (repeat (first | exact List.mem_cons_self | apply List.mem_cons_of_mem)))), after_of_writes_sub b0_5 _ b0_5_writes (h b0_5_W (by with_reducible (repeat (first | exact List.mem_cons_self | apply List.mem_cons_of_mem)))),
    after_of_writes_sub b0_4 _ b0_4_writes (h b0_4_W (by with_reducible (repeat (first | exact List.mem_cons_self | apply List.mem_cons_of_mem)))), after_of_writes_sub b0_3 _ b0_3_writes (h b0_3_W (by with_reducible (repeat (first | exact List.mem_cons_self | apply List.mem_cons_of_mem)))),
    after_of_writes_sub b0_2 _ b0_2_writes (h b0_2_W (by with_reducible (repeat (first | exact List.mem_cons_self | apply List.mem_cons_of_mem)))), after_of_writes_sub b0_1 _ b0_1_writes (h b0_1_W (by with_reducible (repeat (first | exact List.mem_cons_self | apply List.mem_cons_of_mem)))),
    after_of_writes_sub b0_0 _ b0_0_writes (h b0_0_W (by with_reducible (repeat (first | exact List.mem_cons_self | apply List.mem_cons_of_mem)))), after_of_writes_sub cond0 _ cond0_writes (h cond0_W (by with_reducible (repeat (first | exact List.mem_cons_self | apply List.mem_cons_of_mem))))]

/-- Before its `k`-th condition the first counter is `k`. -/
theorem counter0 (c : Dev nD) : ∀ k, at0 m k c (Proc.devRef .tc main_v16_3) = fun _ => Scf.iv 0#32 1#32 k
  | 0 => by rw [show at0 m 0 c = start0 m c from rfl, counter0_start, Scf.iv_zero]
  | k + 1 => by
    rw [show at0 m (k + 1) c = afterL body0I (after cond0 (at0 m k c)) from rfl]
    simp only [afterL_cons, afterL_nil]
    rw [counter0_step, through0 _ main_v16_3 (by decide +kernel), counter0 c k, Scf.iv_succ]
    rfl

set_option backward.isDefEq.respectTransparency.types false in
/-- The first condition holds exactly before 511 trips are made. -/
theorem cond0_spec : CondSpec (pcfgs (F := F)) defs₀ loops (main_while0_cond (F := F)) cond0 body0I (start0 m) 511 := by
  intro k hk c bd
  have hctr := counter0 m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at0 m k c) main_v16_3 HostLoop.idx0)
        (HloOp.result _ (at0 m k c) main_while0c_c_20 HostLoop.idx0) = 1#1) (k < 511)
    rw [nullary_result_ne _ _ _ _ (by decide), nullary_result, hctr]
    exact Scf.cmpi_slt_iv_ub_iff (lb := 0#32) (ub := 511#32) (st := 1#32) (by decide) (show k ≤ Scf.trips 0#32 511#32 1#32 from hk)
  isplitl [Hb]; · iexact Hb
  rw [after_cons, after_cons, after_nil]; iexact Hh

set_option maxRecDepth 100000 in
/-- The second counter starts at zero. -/
theorem counter1_start (c : Dev nD) : start1 m c (Proc.devRef .tc main_v65_1) = fun _ => (0#32 : BitVec 32) := by
  simp only [start1, TwoLoops.enter₁, afterL_cons, afterL_nil]
  generalize TwoLoops.leave₀ cond0 preI body0I 511 m c = X
  after_reads_simp
  rfl

set_option maxRecDepth 100000 in
/-- The second body's last stretch steps the counter. -/
theorem counter1_step (X : Valuation τ sig (Elt F)) :
    after b1_4 X (Proc.devRef .tc main_v65_1) = addi (X (Proc.devRef .tc main_v65_1)) (constantI S_ 32 1#32) := by
  after_results
  rfl

/-- A buffer that none of the second loop's stretches before the last writes is as the condition found it. -/
theorem through1 (X : Valuation τ sig (Elt F)) (b : Ref sig .tc)
    (h : ∀ W ∈ ([cond1_W, b1_0_W, b1_1_W, b1_2_W, b1_3_W] : List (List (Ref sig .tc))),
      b ∉ W) :
    after b1_3 (after b1_2 (after b1_1 (after b1_0 (after cond1 X)))) (Proc.devRef .tc b) = X (Proc.devRef .tc b) := by
  rw [after_of_writes_sub b1_3 _ b1_3_writes (h b1_3_W (by with_reducible (repeat (first | exact List.mem_cons_self | apply List.mem_cons_of_mem)))), after_of_writes_sub b1_2 _ b1_2_writes (h b1_2_W (by with_reducible (repeat (first | exact List.mem_cons_self | apply List.mem_cons_of_mem)))),
    after_of_writes_sub b1_1 _ b1_1_writes (h b1_1_W (by with_reducible (repeat (first | exact List.mem_cons_self | apply List.mem_cons_of_mem)))), after_of_writes_sub b1_0 _ b1_0_writes (h b1_0_W (by with_reducible (repeat (first | exact List.mem_cons_self | apply List.mem_cons_of_mem)))),
    after_of_writes_sub cond1 _ cond1_writes (h cond1_W (by with_reducible (repeat (first | exact List.mem_cons_self | apply List.mem_cons_of_mem))))]

/-- Before its `k`-th condition the second counter is `k`. -/
theorem counter1 (c : Dev nD) : ∀ k, at1 m k c (Proc.devRef .tc main_v65_1) = fun _ => Scf.iv 0#32 1#32 k
  | 0 => by rw [show at1 m 0 c = start1 m c from rfl, counter1_start, Scf.iv_zero]
  | k + 1 => by
    rw [show at1 m (k + 1) c = afterL body1I (after cond1 (at1 m k c)) from rfl]
    simp only [afterL_cons, afterL_nil]
    rw [counter1_step, through1 _ main_v65_1 (by decide +kernel), counter1 c k, Scf.iv_succ]
    rfl

set_option backward.isDefEq.respectTransparency.types false in
/-- The second condition holds exactly before 511 trips are made. -/
theorem cond1_spec : CondSpec (pcfgs (F := F)) defs₀ loops (main_while1_cond (F := F)) cond1 body1I (start1 m) 511 := by
  intro k hk c bd
  have hctr := counter1 m c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at1 m k c) main_v65_1 HostLoop.idx0)
        (HloOp.result _ (at1 m k c) main_while1c_c_17 HostLoop.idx0) = 1#1) (k < 511)
    rw [nullary_result_ne _ _ _ _ (by decide), nullary_result, hctr]
    exact Scf.cmpi_slt_iv_ub_iff (lb := 0#32) (ub := 511#32) (st := 1#32) (by decide) (show k ≤ Scf.trips 0#32 511#32 1#32 from hk)
  isplitl [Hb]; · iexact Hb
  rw [after_cons, after_cons, after_nil]; iexact Hh

set_option maxRecDepth 100000 in
/-- THE RUN: every execution ends with every buffer at the fold. -/
theorem run_final : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = final m c (Proc.devRef .tc b)) :=
  TwoLoops.run (pcs := pcfgs (F := F)) (defs₀ := defs₀) (loops := loops) 0 1 main_while0_cond main_while1_cond main_while0_body
    main_while1_body rfl rfl cond0 cond1 preI body0I midI body1I postI preI_plain body0I_plain midI_plain body1I_plain postI_plain
    (by rw [body0_chain]; rfl) (by rw [body1_chain]; rfl) 511 511 m main (fun c => by rw [main_chain]; rfl) ρ (cond0_spec m) (cond1_spec m)

/-- A buffer no operation writes holds at the end what it held at the start. -/
theorem kept (c : Dev nD) (b : Ref sig .tc)
    (h : ∀ W ∈ ([ops0_W, cond0_W, b0_0_W, b0_1_W, b0_2_W, b0_3_W, b0_4_W, b0_5_W, b0_6_W, b0_7_W, b0_8_W, b0_9_W, ops1_W, opsArg_W,
        ops2_W, ops3_W, cond1_W, b1_0_W, b1_1_W, b1_2_W, b1_3_W, b1_4_W, ops4_W] : List (List (Ref sig .tc))),
      b ∉ W) :
    final m c (Proc.devRef .tc b) = m ((c : Thread nD τ).loc b) := by
  have hs0 : start0 m c (Proc.devRef .tc b) = m ((c : Thread nD τ).loc b) := by
    simp only [start0, TwoLoops.enter₀, afterL_cons, afterL_nil]
    exact after_of_writes_sub ops0 _ ops0_writes (h ops0_W (by with_reducible (repeat (first | exact List.mem_cons_self | apply List.mem_cons_of_mem))))
  have ha0 : ∀ k, at0 m k c (Proc.devRef .tc b) = m ((c : Thread nD τ).loc b) := by
    intro k
    induction k with
    | zero => exact hs0
    | succ k ih =>
      rw [show at0 m (k + 1) c = afterL body0I (after cond0 (at0 m k c)) from rfl]
      simp only [afterL_cons, afterL_nil]
      rw [after_of_writes_sub b0_9 _ b0_9_writes (h b0_9_W (by with_reducible (repeat (first | exact List.mem_cons_self | apply List.mem_cons_of_mem)))),
        through0 _ b (fun W hW => h W (by fin_cases hW <;> with_reducible (repeat (first | exact List.mem_cons_self | apply List.mem_cons_of_mem)))), ih]
  have hs1 : start1 m c (Proc.devRef .tc b) = m ((c : Thread nD τ).loc b) := by
    simp only [start1, TwoLoops.enter₁, TwoLoops.leave₀, afterL_cons, afterL_nil]
    rw [after_of_writes_sub ops3 _ ops3_writes (h ops3_W (by with_reducible (repeat (first | exact List.mem_cons_self | apply List.mem_cons_of_mem)))), after_of_writes_sub ops2 _ ops2_writes (h ops2_W (by with_reducible (repeat (first | exact List.mem_cons_self | apply List.mem_cons_of_mem)))),
      after_of_writes_sub opsArg _ opsArg_writes (h opsArg_W (by with_reducible (repeat (first | exact List.mem_cons_self | apply List.mem_cons_of_mem)))), after_of_writes_sub ops1 _ ops1_writes (h ops1_W (by with_reducible (repeat (first | exact List.mem_cons_self | apply List.mem_cons_of_mem)))),
      after_of_writes_sub cond0 _ cond0_writes (h cond0_W (by with_reducible (repeat (first | exact List.mem_cons_self | apply List.mem_cons_of_mem))))]
    exact ha0 511
  have ha1 : ∀ k, at1 m k c (Proc.devRef .tc b) = m ((c : Thread nD τ).loc b) := by
    intro k
    induction k with
    | zero => exact hs1
    | succ k ih =>
      rw [show at1 m (k + 1) c = afterL body1I (after cond1 (at1 m k c)) from rfl]
      simp only [afterL_cons, afterL_nil]
      rw [after_of_writes_sub b1_4 _ b1_4_writes (h b1_4_W (by with_reducible (repeat (first | exact List.mem_cons_self | apply List.mem_cons_of_mem)))),
        through1 _ b (fun W hW => h W (by fin_cases hW <;> with_reducible (repeat (first | exact List.mem_cons_self | apply List.mem_cons_of_mem)))), ih]
  simp only [final, TwoLoops.atEnd, TwoLoops.leave₁, afterL_cons, afterL_nil]
  rw [after_of_writes_sub ops4 _ ops4_writes (h ops4_W (by with_reducible (repeat (first | exact List.mem_cons_self | apply List.mem_cons_of_mem)))), after_of_writes_sub cond1 _ cond1_writes (h cond1_W (by with_reducible (repeat (first | exact List.mem_cons_self | apply List.mem_cons_of_mem))))]
  exact ha1 511

/-- No operation writes an argument. -/
theorem kept_args (c : Dev nD) : final m c (Proc.devRef .tc main_arg0) = m ((c : Thread nD τ).loc main_arg0)
    ∧ final m c (Proc.devRef .tc main_arg1) = m ((c : Thread nD τ).loc main_arg1)
    ∧ final m c (Proc.devRef .tc main_arg2) = m ((c : Thread nD τ).loc main_arg2) :=
  ⟨kept m c main_arg0 (by decide +kernel), kept m c main_arg1 (by decide +kernel), kept m c main_arg2 (by decide +kernel)⟩

/-- The run's value: the result array at the fold, the arguments as launched. -/
theorem value_run : θ_run (defs (F := F)) (onTc (τ := τ) (main (F := F))) ⟨m, fun _ => 0, ρ⟩ (fun r => ∀ c : Dev nD,
      r.2.mem ((c.tc : Thread nD τ).loc main_v68) = final m c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨h c main_v68 rfl, (h c main_arg0 rfl).trans (kept_args m c).1,
    (h c main_arg1 rfl).trans (kept_args m c).2.1, (h c main_arg2 rfl).trans (kept_args m c).2.2⟩) (run_final m ρ)

/-- The frame claim at any float values. -/
theorem frame_claim : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (value_run m ρ)

end Cert.ReferenceIdeal.Run

end
-- ==== Proof.First.lean ====
/-
The first position of the greatest of forty-eight numbers, and the arithmetic both programs use to find it: the
kernel's "greatest of 47 minus the positions that reach the maximum", and a fold of `max` at a set of reals.
-/
module

public import Idealize.ShloMosaic.Lib.Pointwise

@[expose] public section

noncomputable section

namespace Cert.Best

open Idealize.ShloMosaic

/-- There is a first greatest entry. -/
theorem exists_first (v : Fin 48 → ℝ) : ∃ g : Fin 48, (∀ f, v f ≤ v g) ∧ ∀ f < g, v f < v g := by
  classical
  obtain ⟨g0, hg0⟩ := Finite.exists_max v
  have hne : (Finset.univ.filter fun g : Fin 48 => ∀ f, v f ≤ v g).Nonempty := ⟨g0, by simp [hg0]⟩
  refine ⟨Finset.min' _ hne, ?_, ?_⟩
  · have := Finset.min'_mem _ hne
    exact (Finset.mem_filter.mp this).2
  · intro f hf
    by_contra hlt
    have htop := (Finset.mem_filter.mp (Finset.min'_mem _ hne)).2
    have : f ∈ Finset.univ.filter fun g : Fin 48 => ∀ f, v f ≤ v g :=
      Finset.mem_filter.mpr ⟨Finset.mem_univ _, fun e => (htop e).trans (not_lt.mp hlt)⟩
    exact absurd hf (not_lt.mpr (Finset.min'_le _ _ this))

/-- The first greatest entry. -/
def first (v : Fin 48 → ℝ) : Fin 48 := (exists_first v).choose

/-- The greatest entry. -/
def top (v : Fin 48 → ℝ) : ℝ := v (first v)

theorem le_top (v : Fin 48 → ℝ) (f : Fin 48) : v f ≤ top v := (exists_first v).choose_spec.1 f

theorem lt_top_of_lt (v : Fin 48 → ℝ) {f : Fin 48} (h : f < first v) : v f < top v := (exists_first v).choose_spec.2 f h

/-- A fold of `max` from below every number is an entry no other exceeds. -/
theorem fold_max {n : ℕ} (v : Fin n → EReal) (g : Fin n) (h : ∀ f, v f ≤ v g) :
    Finset.univ.fold max (⊥ : EReal) v = v g :=
  le_antisymm (Finset.sup_le (f := v) fun f _ => h f) (Finset.le_sup (f := v) (Finset.mem_univ g))

/-- A fold of `max` over reals, at the entry reached. -/
theorem fold_top (v : Fin 48 → ℝ) : Finset.univ.fold max (⊥ : EReal) (fun f => (v f : EReal)) = (top v : EReal) :=
  fold_max (fun f => (v f : EReal)) (first v) fun f => EReal.coe_le_coe_iff.mpr (le_top v f)

/-- A fold of `max` over reals is a real. -/
theorem fold_real (v : Fin 48 → ℝ) : ∃ c : ℝ, Finset.univ.fold max (⊥ : EReal) (fun f => (v f : EReal)) = (c : EReal) :=
  ⟨_, fold_top v⟩

theorem bits_bot : Ideal.ofBits .f32 0xFF800000#32 = (⊥ : EReal) := by
  simp [Ideal.ofBits, Ideal.ieee]

theorem bits_neg_one : Ideal.ofBits .f32 0xBF800000#32 = (((-1 : ℝ)) : EReal) := by
  simp [Ideal.ofBits, Ideal.ieee, -EReal.coe_mul, -EReal.coe_neg]; norm_num

theorem bits_low : ∃ r : ℝ, Ideal.ofBits .f32 0xFF61B1E6#32 = (r : EReal) := by
  simp [Ideal.ofBits, Ideal.ieee, -EReal.coe_mul, -EReal.coe_neg]

theorem word_position : ∀ f : Fin 48, (IntOp.subi 47#32 (BitVec.ofNat 32 f.val)).toInt = 47 - (f.val : ℤ) := by
  decide +kernel

theorem word_back : ∀ f : Fin 48, IntOp.subi 47#32 (BitVec.ofInt 32 (47 - (f.val : ℤ))) = BitVec.ofNat 32 f.val := by
  decide +kernel

/-- The kernel's position arithmetic: of the entries that reach the maximum, the first. -/
theorem decode (v : Fin 48 → ℝ) (cond : Fin 48 → Prop) [DecidablePred cond] (h : ∀ f, cond f ↔ v f = top v) :
    IntOp.subi 47#32 (FloatOps.fptosi (F := Ideal) (φ := .f32) 32 (Finset.univ.fold max (Ideal.ofBits .f32 0xFF800000#32 : EReal)
      (fun f : Fin 48 => if cond f then FloatOps.sitofp (F := Ideal) .f32 (IntOp.subi 47#32 (BitVec.ofNat 32 f.val))
        else Ideal.ofBits .f32 0xBF800000#32))) = BitVec.ofNat 32 (first v).val := by
  have hg : cond (first v) := (h _).mpr rfl
  have hpos : ∀ f : Fin 48, FloatOps.sitofp (F := Ideal) .f32 (IntOp.subi 47#32 (BitVec.ofNat 32 f.val))
      = (((47 - (f.val : ℤ) : ℤ) : ℝ) : EReal) := fun f => by
    show (((IntOp.subi 47#32 (BitVec.ofNat 32 f.val)).toInt : ℝ) : EReal) = _
    rw [word_position]
  rw [bits_bot, fold_max _ (first v)]
  · rw [if_pos hg, hpos]
    show IntOp.subi 47#32 (BitVec.ofInt 32 (max _ (min _ (if (0 : ℝ) ≤ ((47 - ((first v).val : ℤ) : ℤ) : ℝ) then _ else _)))) = _
    have hlt := (first v).isLt
    rw [if_pos (by exact_mod_cast (by omega : (0 : ℤ) ≤ 47 - ((first v).val : ℤ))), Int.floor_intCast,
      min_eq_right (by norm_num; omega), max_eq_right (by norm_num; omega), word_back]
  · intro f
    have hlt := (first v).isLt
    rw [if_pos hg]
    by_cases hf : cond f
    · rw [if_pos hf, hpos, hpos, EReal.coe_le_coe_iff]
      have : ¬ f < first v := fun hlt => absurd ((h f).mp hf) (lt_top_of_lt v hlt).ne
      have h2 : (first v).val ≤ f.val := by simpa using this
      exact_mod_cast (by omega : 47 - (f.val : ℤ) ≤ 47 - ((first v).val : ℤ))
    · rw [if_neg hf, bits_neg_one, hpos, EReal.coe_le_coe_iff]
      exact_mod_cast (by omega : (-1 : ℤ) ≤ 47 - ((first v).val : ℤ))

end Cert.Best

end
-- ==== Proof.KernelValue.lean ====
/-
What the kernel's result is at an index: where every score is a real number, time step `s` of column `b` holds the
first label whose score is the greatest of that step.
-/
module

public import proofs.«01_k».proof.Proof.KernelFrame
public import proofs.«01_k».proof.Proof.First
public import Idealize.ShloMosaic.Lib.Pointwise.Reduce
public import Idealize.ShloMosaic.Lib.ValueLayout

@[expose] public section

noncomputable section

namespace Cert.KernelIdeal.Model

open Idealize.ShloMosaic Idealize.ShloMosaic.TcCoe
open Cert.KernelIdeal Cert.KernelIdeal.Gen Cert.Best

/-- One step's best score, and the carried maximum, added. -/
theorem step_at (a : Vec Ideal S1x48x128 .f32) (p : FVec Ideal S1x128 .f32) (j : Fin 128) (y : Fin 48 → ℝ)
    (h : ∀ f, a (ix3 (0 : Fin 1) f j) = (y f : EReal)) :
    k0_pay18 p (k0_pay7 a) (ix2 (0 : Fin 1) j) = (top y : EReal) + p (ix2 (0 : Fin 1) j) := by
  unfold k0_pay18 k0_pay7
  pointwise
  rw [bits_bot, funext h, fold_top]

/-- The carried maximum is stored as it is. -/
theorem stored_at (p : FVec Ideal S1x128 .f32) (j : Fin 128) :
    k0_pay2 p (ix3 (0 : Fin 1) (0 : Fin 1) j) = p (ix2 (0 : Fin 1) j) := by
  unfold k0_pay2
  pointwise

/-- The last step's label. -/
theorem last_at (a : Vec Ideal S1x48x128 .f32) (b d : Vec Ideal S1x1x128 .f32) (j : Fin 128) (y : Fin 48 → ℝ) (r : ℝ)
    (h : ∀ f, a (ix3 (0 : Fin 1) f j) = (y f : EReal)) (hb : b (ix3 (0 : Fin 1) (0 : Fin 1) j) = (r : EReal))
    (hd : d (ix3 (0 : Fin 1) (0 : Fin 1) j) = ((top y + r : ℝ) : EReal)) :
    k0_pay22 a b d (ix2 (0 : Fin 1) j) = BitVec.ofNat 32 (first y).val := by
  unfold k0_pay22 k0_pay16
  pointwise
  refine decode y _ fun f => ?_
  rw [h, hb, hd, ← EReal.coe_add, EReal.coe_eq_coe_iff]
  exact add_left_inj r

/-- An earlier step's label, whatever label was decoded after it. -/
theorem earlier_at (p : IVec S1x128 32) (a a' : Vec Ideal S1x48x128 .f32) (d e : Vec Ideal S1x1x128 .f32) (j : Fin 128)
    (y y' : Fin 48 → ℝ) (r : ℝ) (h : ∀ f, a (ix3 (0 : Fin 1) f j) = (y f : EReal))
    (h' : ∀ f, a' (ix3 (0 : Fin 1) f j) = (y' f : EReal)) (he : e (ix3 (0 : Fin 1) (0 : Fin 1) j) = (r : EReal))
    (hd : d (ix3 (0 : Fin 1) (0 : Fin 1) j) = ((top y' + r : ℝ) : EReal)) :
    k0_pay8 lab k0_pay16 p a d a' e (ix2 (0 : Fin 1) j) = BitVec.ofNat 32 (first y').val := by
  obtain ⟨low, hlow⟩ := bits_low
  have hc : ∃ c : ℝ, (Finset.univ.fold max (Ideal.ofBits .f32 0xFF800000#32 : EReal) fun x : Fin 48 =>
      Scalar.select (IntOp.cmpi CmpIPredicate.eq (BitVec.ofNat 32 x.val) (p (ix2 (0 : Fin 1) j))) (a (ix3 (0 : Fin 1) x j))
        (Ideal.ofBits .f32 0xFF61B1E6#32)) = (c : EReal) := by
    have hreal : ∀ x : Fin 48, ∃ q : ℝ, Scalar.select (IntOp.cmpi CmpIPredicate.eq (BitVec.ofNat 32 x.val) (p (ix2 (0 : Fin 1) j)))
        (a (ix3 (0 : Fin 1) x j)) (Ideal.ofBits .f32 0xFF61B1E6#32 : EReal) = (q : EReal) := fun x => by
      rw [h, hlow]
      unfold Scalar.select
      split
      · exact ⟨_, rfl⟩
      · exact ⟨_, rfl⟩
    choose q hq using hreal
    rw [bits_bot, funext hq]
    exact fold_real q
  obtain ⟨c, hc⟩ := hc
  unfold k0_pay8 k0_pay16 lab
  pointwise
  rw [hc]
  refine decode y' _ fun f => ?_
  rw [h', he, hd, ← EReal.coe_add, ← EReal.coe_add, ← EReal.coe_add, EReal.coe_eq_coe_iff]
  constructor
  · intro hh; linarith
  · intro hh; linarith

section Rows

variable (x : Vec Ideal S512x48x128 .f32) (y : Fin 512 → Fin 48 → Fin 128 → ℝ)

/-- The step a natural number names, one past the end read as the last. -/
def at_ (s : ℕ) : Fin 512 := ⟨min s 511, by omega⟩

theorem xrow_at (h : ∀ s f j, x (ix3 s f j) = (y s f j : EReal)) (s : ℕ) (f : Fin 48) (j : Fin 128) :
    xrow x s (ix3 (0 : Fin 1) f j) = (y (at_ s) f j : EReal) := h (at_ s) f j

/-- The sum of the best scores before a step. -/
def total (j : Fin 128) : ℕ → ℝ
  | 0 => 0
  | s + 1 => top (fun f => y (at_ s) f j) + total j s

theorem mrow_at (h : ∀ s f j, x (ix3 s f j) = (y s f j : EReal)) (j : Fin 128) :
    ∀ s, mrow x s (ix2 (0 : Fin 1) j) = (total y j s : EReal)
  | 0 => by
    show k0_pay17 _ = _
    unfold k0_pay17
    pointwise
    simp [total]
  | s + 1 => by
    show k0_pay18 (mrow x s) (k0_pay7 (xrow x s)) _ = _
    rw [step_at _ _ j (fun f => y (at_ s) f j) fun f => xrow_at x y h s f j, mrow_at h j s, ← EReal.coe_add]
    rfl

theorem mrow3_at (h : ∀ s f j, x (ix3 s f j) = (y s f j : EReal)) (j : Fin 128) (s : ℕ) :
    mrow3 x s (ix3 (0 : Fin 1) (0 : Fin 1) j) = (total y j s : EReal) := by
  unfold mrow3
  rw [stored_at, mrow_at x y h]

/-- Every decoded row holds the first best label of its step. -/
theorem prow_at (h : ∀ s f j, x (ix3 s f j) = (y s f j : EReal)) (j : Fin 128) (n : ℕ) (hn : n ≤ 511) :
    prow x n (ix2 (0 : Fin 1) j) = BitVec.ofNat 32 (first fun f => y (at_ (511 - n)) f j).val := by
  cases n with
  | zero =>
    show k0_pay22 _ _ _ _ = _
    exact last_at _ _ _ j _ _ (fun f => xrow_at x y h 511 f j) (mrow3_at x y h j 511) (mrow3_at x y h j 512)
  | succ n =>
    show k0_pay8 lab k0_pay16 (prow x n) (xrow x (511 - n)) (mrow3 x (511 - n)) (xrow x (510 - n)) (mrow3 x (510 - n)) _ = _
    have e : 511 - (n + 1) = 510 - n := by omega
    have e2 : 511 - n = (510 - n) + 1 := by omega
    rw [e]
    refine earlier_at _ _ _ _ _ j _ _ _ (fun f => xrow_at x y h (511 - n) f j) (fun f => xrow_at x y h (510 - n) f j)
      (mrow3_at x y h j (510 - n)) ?_
    rw [mrow3_at x y h j (511 - n), e2]
    rfl

theorem out_at (h : ∀ s f j, x (ix3 s f j) = (y s f j : EReal)) (s : Fin 512) (j : Fin 128) :
    out x (ix3 s (0 : Fin 1) j) = BitVec.ofNat 32 (first fun f => y s f j).val := by
  show k0_pay9 (prow x (511 - s.val)) (ix3 (0 : Fin 1) (0 : Fin 1) j) = _
  unfold k0_pay9
  pointwise
  rw [prow_at x y h j _ (by omega)]
  have : at_ (511 - (511 - s.val)) = s := Fin.ext (by unfold at_; simp only; omega)
  rw [this]

end Rows

variable (m : (ℓ : Loc nD τ sig) → Buf (Elt Ideal) ℓ)

/-- The kernel's result at a batch row and a time step. -/
theorem result_at (c : Dev nD) (z : Fin 128 → Fin 512 → Fin 50 → ℝ)
    (hz : ∀ b s t, m (c.tc.loc main_arg0) (ix3 b s t) = (z b s t : EReal)) (b : Fin 128) (s : Fin 512) :
    result m c (ix2 b s) = BitVec.ofNat 32 (first fun f => z b s (Fin.castLE (by decide) f)).val := by
  have hx : ∀ (s : Fin 512) (f : Fin 48) (j : Fin 128),
      operand m c (ix3 s f j) = (z j s (Fin.castLE (by decide) f) : EReal) := by
    intro s f j
    rw [← hz]
    unfold operand
    pointwise
    rfl
  have := out_at (operand m c) (fun s f j => z j s (Fin.castLE (by decide) f)) hx s b
  rw [← this]
  unfold result
  pointwise

end Cert.KernelIdeal.Model

end
-- ==== Proof.RefAt.lean ====
/-
The reference program's less elementary operations at an index: the row a start names, the row written at a start, the
two gathers, the scatter away from the rows it writes, and the arg-max.
-/
module

public import proofs.«01_k».proof.Proof.RefRun
public import Idealize.ShloMosaic.Lib.Pointwise.Reduce
public import Idealize.ShloMosaic.Lib.ValueLayout
public import Idealize.ShloMosaic.Lib.DynamicIndex
public import Idealize.ShloMosaic.Lib.Routing.OpsSet
public import Idealize.ShloMosaic.Lib.Routing.OpsPair
public import Idealize.ShloMosaic.Lib.StableHlo.ReadAt

@[expose] public section

noncomputable section

namespace Cert.ReferenceIdeal.Run

open Cert.ReferenceIdeal Cert.ReferenceIdeal.Gen
open Idealize.ShloMosaic Idealize.ShloMosaic.TcCoe Idealize.ShloMosaic.Tactic
open Idealize.ShloMosaic.StableHlo

/-- A row taken at a start that names it. -/
theorem row3_at {α : Type} {x : S511x128x50.Idx → α} {start : Fin 3 → ℤ} {k : ℕ} (hk : k < 511) {v : S128x50.Idx → α}
    (hv : v = shapeCast S128x50 (Host.dynamicSlice S1x128x50 x start sliceFits_S511x128x50_S1x128x50) shapeCasts_S1x128x50_S128x50)
    (h0 : start 0 = k) (h1 : start 1 = 0) (h2 : start 2 = 0) (b : Fin 128) (t : Fin 50) :
    v (ix2 b t) = x (ix3 (⟨k, hk⟩ : Fin 511) b t) := by
  have c0 : Host.clampedStart S511x128x50 S1x128x50 rfl start 0 = k :=
    Host.clampedStart_of_le (s := S511x128x50) (t := S1x128x50) rfl start 0 k h0 (show k + 1 ≤ 511 by omega)
  have c1 : Host.clampedStart S511x128x50 S1x128x50 rfl start 1 = 0 :=
    Host.clampedStart_of_le (s := S511x128x50) (t := S1x128x50) rfl start 1 0 h1 (show 0 + 128 ≤ 128 by omega)
  have c2 : Host.clampedStart S511x128x50 S1x128x50 rfl start 2 = 0 :=
    Host.clampedStart_of_le (s := S511x128x50) (t := S1x128x50) rfl start 2 0 h2 (show 0 + 50 ≤ 50 by omega)
  rw [hv]
  pointwise
  simp only [c0, c1, c2, Nat.zero_add, Fin.eta]

/-- The same of a table with two axes. -/
theorem row2_at {α : Type} {x : S511x128.Idx → α} {start : Fin 2 → ℤ} {k : ℕ} (hk : k < 511) {v : S128.Idx → α}
    (hv : v = shapeCast S128 (Host.dynamicSlice S1x128 x start sliceFits_S511x128_S1x128) shapeCasts_S1x128_S128)
    (h0 : start 0 = k) (h1 : start 1 = 0) (b : Fin 128) :
    v (ix1 b) = x (ix2 (⟨k, hk⟩ : Fin 511) b) := by
  have c0 : Host.clampedStart S511x128 S1x128 rfl start 0 = k :=
    Host.clampedStart_of_le (s := S511x128) (t := S1x128) rfl start 0 k h0 (show k + 1 ≤ 511 by omega)
  have c1 : Host.clampedStart S511x128 S1x128 rfl start 1 = 0 :=
    Host.clampedStart_of_le (s := S511x128) (t := S1x128) rfl start 1 0 h1 (show 0 + 128 ≤ 128 by omega)
  rw [hv]
  pointwise
  simp only [c0, c1, Nat.zero_add, Fin.eta]

/-- A row written at a start that names it. -/
theorem put3_at {α : Type} {x : S511x128x50.Idx → α} {u : S128x50.Idx → α} {start : Fin 3 → ℤ} {k : ℕ} (hk : k < 511) {v : S511x128x50.Idx → α}
    (hv : v = Host.dynamicUpdateSlice x (broadcastInDim S1x128x50 ![1, 2] bcast_S128x50_S1x128x50_1_2 u) start updateFits_S511x128x50_S1x128x50)
    (h0 : start 0 = k) (h1 : start 1 = 0) (h2 : start 2 = 0) (i : Fin 511) (b : Fin 128) (t : Fin 50) :
    v (ix3 i b t) = if i.val = k then u (ix2 b t) else x (ix3 i b t) := by
  have c0 : Host.clampedStart S511x128x50 S1x128x50 rfl start 0 = k :=
    Host.clampedStart_of_le (s := S511x128x50) (t := S1x128x50) rfl start 0 k h0 (show k + 1 ≤ 511 by omega)
  have c1 : Host.clampedStart S511x128x50 S1x128x50 rfl start 1 = 0 :=
    Host.clampedStart_of_le (s := S511x128x50) (t := S1x128x50) rfl start 1 0 h1 (show 0 + 128 ≤ 128 by omega)
  have c2 : Host.clampedStart S511x128x50 S1x128x50 rfl start 2 = 0 :=
    Host.clampedStart_of_le (s := S511x128x50) (t := S1x128x50) rfl start 2 0 h2 (show 0 + 50 ≤ 50 by omega)
  rw [hv]
  pointwise
  simp only [c0, c1, c2]
  by_cases e : i.val = k
  · rw [if_pos e, dif_pos (by omega)]
    rfl
  · rw [if_neg e, dif_neg (by omega)]

/-- The same of a table with two axes. -/
theorem put2_at {α : Type} {x : S511x128.Idx → α} {u : S128.Idx → α} {start : Fin 2 → ℤ} {k : ℕ} (hk : k < 511) {v : S511x128.Idx → α}
    (hv : v = Host.dynamicUpdateSlice x (broadcastInDim S1x128 ![1] bcast_S128_S1x128_1 u) start updateFits_S511x128_S1x128)
    (h0 : start 0 = k) (h1 : start 1 = 0) (i : Fin 511) (b : Fin 128) :
    v (ix2 i b) = if i.val = k then u (ix1 b) else x (ix2 i b) := by
  have c0 : Host.clampedStart S511x128 S1x128 rfl start 0 = k :=
    Host.clampedStart_of_le (s := S511x128) (t := S1x128) rfl start 0 k h0 (show k + 1 ≤ 511 by omega)
  have c1 : Host.clampedStart S511x128 S1x128 rfl start 1 = 0 :=
    Host.clampedStart_of_le (s := S511x128) (t := S1x128) rfl start 1 0 h1 (show 0 + 128 ≤ 128 by omega)
  rw [hv]
  pointwise
  simp only [c0, c1]
  by_cases e : i.val = k
  · rw [if_pos e, dif_pos (by omega)]
    rfl
  · rw [if_neg e, dif_neg (by omega)]

/-- The gather of one row of each batch entry, at index words in range. -/
theorem gather3_at {α : Type} (x : S512x128x50.Idx → α) (idx : IVec S128x2 32) (b : Fin 128) (t : Fin 50) (p : Fin 512) (q : Fin 128)
    (hp : idx (ix2 b (0 : Fin 2)) = BitVec.ofNat 32 p.val) (hq : idx (ix2 b (1 : Fin 2)) = BitVec.ofNat 32 q.val) :
    Host.gather gather_S512x128x50_S128x2_S128x50_1_01_n_n_01_1_1150 x idx (ix2 b t) = x (ix3 p q t) := by
  have hpl := p.isLt
  have hql := q.isLt
  refine congrArg x (funext fun a => Fin.ext ?_)
  match a with
  | ⟨0, _⟩ =>
    show min (idx (gather_S512x128x50_S128x2_S128x50_1_01_n_n_01_1_1150.siIdx (ix2 b t) ⟨0, by decide⟩)).toInt.toNat (512 - 1) + 0 + 0 = p.val
    have e : gather_S512x128x50_S128x2_S128x50_1_01_n_n_01_1_1150.siIdx (ix2 b t) ⟨0, by decide⟩ = ix2 b (0 : Fin 2) :=
      funext fun c => by match c with | ⟨0, _⟩ => rfl | ⟨1, _⟩ => rfl
    rw [e, hp, toInt_ofNat_of_lt (by omega)]
    omega
  | ⟨1, _⟩ =>
    show min (idx (gather_S512x128x50_S128x2_S128x50_1_01_n_n_01_1_1150.siIdx (ix2 b t) ⟨1, by decide⟩)).toInt.toNat (128 - 1) + 0 + 0 = q.val
    have e : gather_S512x128x50_S128x2_S128x50_1_01_n_n_01_1_1150.siIdx (ix2 b t) ⟨1, by decide⟩ = ix2 b (1 : Fin 2) :=
      funext fun c => by match c with | ⟨0, _⟩ => rfl | ⟨1, _⟩ => rfl
    rw [e, hq, toInt_ofNat_of_lt (by omega)]
    omega
  | ⟨2, _⟩ =>
    show 0 + 0 + t.val = t.val
    omega

/-- The gather of one entry of each row, at index words in range. -/
theorem gather2_at {α : Type} (x : S128x50.Idx → α) (idx : IVec S128x2 32) (b : Fin 128) (q : Fin 128) (t : Fin 50)
    (hq : idx (ix2 b (0 : Fin 2)) = BitVec.ofNat 32 q.val) (ht : idx (ix2 b (1 : Fin 2)) = BitVec.ofNat 32 t.val) :
    Host.gather gather_S128x50_S128x2_S128_n_01_n_n_01_1_11 x idx (ix1 b) = x (ix2 q t) := by
  have hql := q.isLt
  have htl := t.isLt
  refine congrArg x (funext fun a => Fin.ext ?_)
  match a with
  | ⟨0, _⟩ =>
    show min (idx (gather_S128x50_S128x2_S128_n_01_n_n_01_1_11.siIdx (ix1 b) ⟨0, by decide⟩)).toInt.toNat (128 - 1) + 0 + 0 = q.val
    have e : gather_S128x50_S128x2_S128_n_01_n_n_01_1_11.siIdx (ix1 b) ⟨0, by decide⟩ = ix2 b (0 : Fin 2) :=
      funext fun c => by match c with | ⟨0, _⟩ => rfl | ⟨1, _⟩ => rfl
    rw [e, hq, toInt_ofNat_of_lt (by omega)]
    omega
  | ⟨1, _⟩ =>
    show min (idx (gather_S128x50_S128x2_S128_n_01_n_n_01_1_11.siIdx (ix1 b) ⟨1, by decide⟩)).toInt.toNat (50 - 1) + 0 + 0 = t.val
    have e : gather_S128x50_S128x2_S128_n_01_n_n_01_1_11.siIdx (ix1 b) ⟨1, by decide⟩ = ix2 b (1 : Fin 2) :=
      funext fun c => by match c with | ⟨0, _⟩ => rfl | ⟨1, _⟩ => rfl
    rw [e, ht, toInt_ofNat_of_lt (by omega)]
    omega

/-- The scatter leaves a row that no index word names as it was. -/
theorem scatter_at_other {α : Type} (x : S512x128x50.Idx → α) (idx : IVec S128x2 32) (u : S128x50.Idx → α) (i : Fin 512) (b : Fin 128) (t : Fin 50)
    (h : ∀ q : Fin 128, (idx (ix2 q (0 : Fin 2))).toInt ≠ i.val) :
    Host.scatter scatter_S512x128x50_S128x2_S128x50_1_01_01_1 (fun _ b => b) x idx u (ix3 i b t) = x (ix3 i b t) := by
  refine Routing.scatter_set_miss _ x idx u _ fun k hk => ?_
  have h0 := (Routing.resultIdx?_eq_some _ k idx _).mp hk 0
  refine h (k 0) ?_
  have e : scatter_S512x128x50_S128x2_S128x50_1_01_01_1.siIdx k ⟨0, by decide⟩ = ix2 (k 0 : Fin 128) (0 : Fin 2) :=
    funext fun c => by match c with | ⟨0, _⟩ => rfl | ⟨1, _⟩ => rfl
  have h1 : (idx (scatter_S512x128x50_S128x2_S128x50_1_01_01_1.siIdx k ⟨0, by decide⟩)).toInt + ((0 : ℕ) : ℤ) = (i.val : ℤ) := h0
  rw [e] at h1
  simpa using h1

end Cert.ReferenceIdeal.Run

end
-- ==== Proof.RefArgmax.lean ====
/-
The arg-max of the reference over the tags it may come from: the first of the greatest, on real numbers.
-/
module

public import proofs.«01_k».proof.Proof.RefAt
public import proofs.«01_k».proof.Proof.First
public import Idealize.ShloMosaic.PureOps.Ideal.Laws

@[expose] public section

noncomputable section

namespace Cert.ReferenceIdeal.Run

open Cert.ReferenceIdeal Cert.ReferenceIdeal.Gen
open Idealize.ShloMosaic Idealize.ShloMosaic.TcCoe

/-- A pair is at least as good as another: a greater value, or the same value at a position no later. -/
def Beats (p q : EReal × BitVec 32) : Prop := q.1 < p.1 ∨ (q.1 = p.1 ∧ p.2.toInt ≤ q.2.toInt)

theorem Beats.total (p q : EReal × BitVec 32) : Beats p q ∨ Beats q p := by
  unfold Beats
  rcases lt_trichotomy p.1 q.1 with h | h | h
  · exact .inr (.inl h)
  · rcases le_total p.2.toInt q.2.toInt with h' | h'
    · exact .inl (.inr ⟨h.symm, h'⟩)
    · exact .inr (.inr ⟨h, h'⟩)
  · exact .inl (.inl h)

/-- A fold that keeps the better of two pairs ends with the best of all. -/
theorem foldl_best (f : EReal × BitVec 32 → EReal × BitVec 32 → EReal × BitVec 32)
    (hl : ∀ a b, Beats a b → f a b = a) (hr : ∀ a b, Beats b a → f a b = b) :
    ∀ (L : List (EReal × BitVec 32)) (a p : EReal × BitVec 32), (p = a ∨ p ∈ L) → Beats p a → (∀ q ∈ L, Beats p q) → L.foldl f a = p
  | [], a, p, hm, _, _ => by
    rcases hm with h | h
    · exact h.symm
    · exact absurd h List.not_mem_nil
  | q :: L, a, p, hm, ha, hL => by
    have hq := hL q List.mem_cons_self
    have hL' : ∀ r ∈ L, Beats p r := fun r h => hL r (List.mem_cons_of_mem _ h)
    rw [List.foldl_cons]
    rcases hm with h | h
    · subst h
      rw [hl _ _ hq]
      exact foldl_best f hl hr L _ _ (.inl rfl) ha hL'
    · rcases List.mem_cons.mp h with h | h
      · subst h
        rw [hr _ _ ha]
        exact foldl_best f hl hr L _ _ (.inl rfl) hq hL'
      · rcases Beats.total a q with t | t
        · rw [hl _ _ t]; exact foldl_best f hl hr L _ _ (.inr h) ha hL'
        · rw [hr _ _ t]; exact foldl_best f hl hr L _ _ (.inr h) hq hL'

theorem reducer_left (a b : EReal × BitVec 32) (h : Beats a b) : reducer_argmax_f32_i32 (F := Ideal) a b = a := by
  obtain ⟨a1, a2⟩ := a
  obtain ⟨b1, b2⟩ := b
  rcases h with h | ⟨h, h'⟩
  · have h : b1 < a1 := h
    simp [reducer_argmax_f32_i32, Ideal.cmpf_def, Ideal.cmp, h, h.ne', IntOp.ori, IntOp.andi, IntOp.cmpi, Scalar.select]
  · have h : b1 = a1 := h
    have h' : a2.toInt ≤ b2.toInt := h'
    subst h
    rcases lt_or_eq_of_le h' with e | e
    · simp [reducer_argmax_f32_i32, Ideal.cmpf_def, Ideal.cmp, IntOp.ori, IntOp.andi, IntOp.cmpi, Scalar.select, BitVec.slt, e]
    · have e := BitVec.eq_of_toInt_eq e
      subst e
      simp [reducer_argmax_f32_i32, Ideal.cmpf_def, Ideal.cmp, IntOp.ori, IntOp.andi, IntOp.cmpi, Scalar.select, BitVec.slt]

theorem reducer_right (a b : EReal × BitVec 32) (h : Beats b a) : reducer_argmax_f32_i32 (F := Ideal) a b = b := by
  obtain ⟨a1, a2⟩ := a
  obtain ⟨b1, b2⟩ := b
  rcases h with h | ⟨h, h'⟩
  · have h : a1 < b1 := h
    simp [reducer_argmax_f32_i32, Ideal.cmpf_def, Ideal.cmp, h, h.ne, not_lt.mpr h.le, IntOp.ori, IntOp.andi, IntOp.cmpi, Scalar.select]
  · have h : a1 = b1 := h
    have h' : b2.toInt ≤ a2.toInt := h'
    subst h
    simp [reducer_argmax_f32_i32, Ideal.cmpf_def, Ideal.cmp, IntOp.ori, IntOp.andi, IntOp.cmpi, Scalar.select, BitVec.slt, not_lt.mpr h']

/-- The arg-max over the middle axis at an index: the first position of the greatest. -/
theorem argmax_at (x : FVec Ideal S128x50x50 .f32) (y : IVec S128x50x50 32) (u : FVec Ideal S_ .f32) (v : IVec S_ 32) (b : Fin 128) (t : Fin 50) (g : Fin 50)
    (hy : ∀ f : Fin 50, y (ix3 b f t) = BitVec.ofNat 32 f.val) (hu : ∀ i, u i = (⊥ : EReal))
    (htop : ∀ f : Fin 50, (x (ix3 b f t) : EReal) ≤ x (ix3 b g t)) (hlt : ∀ f : Fin 50, f < g → (x (ix3 b f t) : EReal) < x (ix3 b g t))
    (hbot : (⊥ : EReal) < x (ix3 b g t)) :
    (Host.argReduce reducer_argmax_f32_i32 x y u v reducesTo_S128x50x50_S128x50_d1 h_S_ (ix2 b t)).2 = BitVec.ofNat 32 g.val := by
  have hpos : ∀ f : Fin 50, (BitVec.ofNat 32 f.val).toInt = (f.val : ℤ) := fun f => by
    have := f.isLt
    exact toInt_ofNat_of_lt (by omega)
  have hdrop : ∀ i : S128x50x50.Idx, reducesTo_S128x50x50_S128x50_d1.drop i = ix2 b t ↔ i = ix3 b (i 1 : Fin 50) t := by
    intro i
    have e0 : ((reducesTo_S128x50x50_S128x50_d1.drop i 0 : Fin 128) : ℕ) = (i 0 : Fin 128) := Shape.ReducesTo.drop_apply_val_of_eq _ i 0 0
    have e1 : ((reducesTo_S128x50x50_S128x50_d1.drop i 1 : Fin 50) : ℕ) = (i 2 : Fin 50) := Shape.ReducesTo.drop_apply_val_of_eq _ i 1 2
    constructor
    · intro h
      rw [h] at e0 e1
      funext a
      match a with
      | ⟨0, _⟩ => exact Fin.ext e0.symm
      | ⟨1, _⟩ => rfl
      | ⟨2, _⟩ => exact Fin.ext e1.symm
    · intro h
      funext a
      match a with
      | ⟨0, _⟩ => exact Fin.ext (e0.trans (congrArg (fun i : S128x50x50.Idx => ((i 0 : Fin 128) : ℕ)) h))
      | ⟨1, _⟩ => exact Fin.ext (e1.trans (congrArg (fun i : S128x50x50.Idx => ((i 2 : Fin 50) : ℕ)) h))
  rw [Ideal.argReduce_eq_reduce2, Host.reduce2_eq_foldl_fiber,
    foldl_best _ reducer_left reducer_right _ _ ((x (ix3 b g t) : EReal), BitVec.ofNat 32 g.val)]
  · refine .inr ?_
    unfold Host.argReduceFiber
    refine List.mem_map.mpr ⟨S128x50x50.rowMajor (ix3 b g t), List.mem_filter.mpr ⟨List.mem_finRange _, ?_⟩, ?_⟩
    · rw [Equiv.symm_apply_apply]
      exact decide_eq_true ((hdrop _).mpr rfl)
    · rw [Equiv.symm_apply_apply, hy]
  · exact .inl (by rw [hu]; exact hbot)
  · intro q hq
    obtain ⟨n, hn, rfl⟩ := List.mem_map.mp hq
    have hn := (List.mem_filter.mp hn).2
    rw [decide_eq_true_iff] at hn
    obtain ⟨f, hf⟩ : ∃ f : Fin 50, S128x50x50.rowMajor.symm n = ix3 b f t := ⟨_, (hdrop _).mp hn⟩
    rw [hf, hy]
    unfold Beats
    rw [hpos, hpos]
    rcases lt_or_eq_of_le (htop f) with h | h
    · exact .inl h
    · refine .inr ⟨h, ?_⟩
      have : ¬ f < g := fun e => (hlt f e).ne h
      have h2 : g.val ≤ f.val := by simpa using this
      exact_mod_cast h2

end Cert.ReferenceIdeal.Run

end
-- ==== Proof.RefReads0.lean ====
/-
What each stretch of the first loop's body leaves at an index, as a function of the state it finds.
-/
module

public import proofs.«01_k».proof.Proof.RefArgmax

@[expose] public section

noncomputable section

namespace Cert.ReferenceIdeal.Run

open Cert.ReferenceIdeal Cert.ReferenceIdeal.Gen
open Idealize.ShloMosaic Idealize.ShloMosaic.TcCoe Idealize.ShloMosaic.Tactic
open Idealize.ShloMosaic.StableHlo

variable (X : Valuation τ sig (Elt Ideal))

/-- Trip `k` reads row `k` of the scores. -/
theorem s0_0 {k : ℕ} (hk : k < 511) (hc : X (Proc.devRef .tc main_v16_3) = fun _ => BitVec.ofNat 32 k) (b : Fin 128) (t : Fin 50) :
    after b0_0 X (Proc.devRef .tc main_while0b_v69) (ix2 b t) = X (Proc.devRef .tc main_v16_0) (ix3 (⟨k, hk⟩ : Fin 511) b t) := by
  apply row3_at hk
  · after_reads_simp
    rfl
  · show BitVec.toInt (X (Proc.devRef .tc main_v16_3) (Shape.Idx.first h_S_)) = _
    rw [hc]
    exact toInt_ofNat_of_lt (by omega)
  · rfl
  · rfl

/-- Trip `k` reads row `k` of the table of steps outside the sequence. -/
theorem s0_1 {k : ℕ} (hk : k < 511) (hc : X (Proc.devRef .tc main_v16_3) = fun _ => BitVec.ofNat 32 k) (b : Fin 128) :
    after b0_1 X (Proc.devRef .tc main_while0b_v70) (ix1 b) = X (Proc.devRef .tc main_v16_1) (ix2 (⟨k, hk⟩ : Fin 511) b) := by
  apply row2_at hk
  · after_reads_simp
    rfl
  · show BitVec.toInt (X (Proc.devRef .tc main_v16_3) (Shape.Idx.first h_S_)) = _
    rw [hc]
    exact toInt_ofNat_of_lt (by omega)
  · rfl

/-- The sums over which the step decides. -/
theorem s0_2 (b : Fin 128) (f t : Fin 50) (x w p : ℝ) (hx : X (Proc.devRef .tc main_while0b_v69) (ix2 b t) = (x : EReal))
    (hw : X (Proc.devRef .tc main_v16_2) (ix2 f t) = (w : EReal)) (hp : X (Proc.devRef .tc main_v16_4) (ix2 b f) = (p : EReal)) :
    after b0_2 X (Proc.devRef .tc main_while0b_v78) (ix3 b f t) = ((x + w + p : ℝ) : EReal) := by
  have e : after b0_2 X (Proc.devRef .tc main_while0b_v78) (ix3 b f t) = ((x : EReal) + (w : EReal)) + (p : EReal) := by
    after_reads_at
    rw [hx, hw, hp]
  rw [e, EReal.coe_add, EReal.coe_add]

/-- The back pointer is the first of the greatest. -/
theorem s0_3 (b : Fin 128) (t : Fin 50) (y : Fin 50 → ℝ) (g : Fin 50)
    (hy : ∀ f : Fin 50, X (Proc.devRef .tc main_while0b_v78) (ix3 b f t) = (y f : EReal))
    (htop : ∀ f, y f ≤ y g) (hlt : ∀ f, f < g → y f < y g) :
    after b0_3 X (Proc.devRef .tc main_while0b_v79) (ix2 b t) = BitVec.ofNat 32 g.val := by
  have e : after b0_3 X (Proc.devRef .tc main_while0b_v79)
      = fun j => (Host.argReduce (F := Ideal) reducer_argmax_f32_i32 (X (Proc.devRef .tc main_while0b_v78)) (iotaInDim S128x50x50 32 1)
          (constant S_ .f32 0xFF800000#32) (constantI S_ 32 0#32) reducesTo_S128x50x50_S128x50_d1 h_S_ j).2 := by
    after_reads_simp
    rfl
  rw [e]
  refine argmax_at _ _ _ _ b t g (fun f => rfl) (fun _ => Best.bits_bot) (fun f => ?_) (fun f hf => ?_) ?_
  · rw [hy, hy]; exact EReal.coe_le_coe_iff.mpr (htop f)
  · rw [hy, hy]; exact EReal.coe_lt_coe_iff.mpr (hlt f hf)
  · rw [hy]; exact EReal.bot_lt_coe _

theorem s0_4 (b : Fin 128) : after b0_4 X (Proc.devRef .tc main_while0b_v80) (ix2 b (0 : Fin 1)) = X (Proc.devRef .tc main_while0b_v70) (ix1 b) := by
  after_reads_at

/-- Inside the sequence the back pointer stays. -/
theorem s0_5 (b : Fin 128) (t : Fin 50) (h : X (Proc.devRef .tc main_while0b_v80) (ix2 b (0 : Fin 1)) = 0#1) :
    after b0_5 X (Proc.devRef .tc main_while0b_v81) (ix2 b t) = X (Proc.devRef .tc main_while0b_v79) (ix2 b t) := by
  after_reads_at
  rw [h]
  rfl

/-- The new running maxima. -/
theorem s0_6 (b : Fin 128) (t : Fin 50) (y : Fin 50 → ℝ) (g : Fin 50)
    (hy : ∀ f : Fin 50, X (Proc.devRef .tc main_while0b_v78) (ix3 b f t) = (y f : EReal)) (htop : ∀ f, y f ≤ y g) :
    after b0_6 X (Proc.devRef .tc main_while0b_v82) (ix2 b t) = (y g : EReal) := by
  have e : after b0_6 X (Proc.devRef .tc main_while0b_v82) (ix2 b t)
      = Finset.univ.fold max (Ideal.ofBits .f32 0xFF800000#32 : EReal) (fun f : Fin 50 => X (Proc.devRef .tc main_while0b_v78) (ix3 b f t)) := by
    after_reads_at
  rw [e, Best.bits_bot, funext hy]
  exact Best.fold_max (fun f => (y f : EReal)) g fun f => EReal.coe_le_coe_iff.mpr (htop f)

/-- Row `k` of the table of running maxima is written. -/
theorem s0_7 {k : ℕ} (hk : k < 511) (hc : X (Proc.devRef .tc main_v16_3) = fun _ => BitVec.ofNat 32 k) (i : Fin 511) (b : Fin 128) (t : Fin 50) :
    after b0_7 X (Proc.devRef .tc main_while0b_v83) (ix3 i b t)
      = if i.val = k then X (Proc.devRef .tc main_while0b_v82) (ix2 b t) else X (Proc.devRef .tc main_v16_5) (ix3 i b t) := by
  apply put3_at hk
  · after_reads_simp
    rfl
  · show BitVec.toInt (X (Proc.devRef .tc main_v16_3) (Shape.Idx.first h_S_)) = _
    rw [hc]
    exact toInt_ofNat_of_lt (by omega)
  · rfl
  · rfl

/-- Row `k` of the table of back pointers is written. -/
theorem s0_8 {k : ℕ} (hk : k < 511) (hc : X (Proc.devRef .tc main_v16_3) = fun _ => BitVec.ofNat 32 k) (i : Fin 511) (b : Fin 128) (t : Fin 50) :
    after b0_8 X (Proc.devRef .tc main_while0b_v84) (ix3 i b t)
      = if i.val = k then X (Proc.devRef .tc main_while0b_v81) (ix2 b t) else X (Proc.devRef .tc main_v16_6) (ix3 i b t) := by
  apply put3_at hk
  · after_reads_simp
    rfl
  · show BitVec.toInt (X (Proc.devRef .tc main_v16_3) (Shape.Idx.first h_S_)) = _
    rw [hc]
    exact toInt_ofNat_of_lt (by omega)
  · rfl
  · rfl

theorem s0_9_4 : after b0_9 X (Proc.devRef .tc main_v16_4) = X (Proc.devRef .tc main_while0b_v82) := by
  after_reads_simp
  try rfl

theorem s0_9_5 : after b0_9 X (Proc.devRef .tc main_v16_5) = X (Proc.devRef .tc main_while0b_v83) := by
  after_reads_simp
  try rfl

theorem s0_9_6 : after b0_9 X (Proc.devRef .tc main_v16_6) = X (Proc.devRef .tc main_while0b_v84) := by
  after_reads_simp
  try rfl

end Cert.ReferenceIdeal.Run

end
-- ==== Proof.Inputs.lean ====
/-
What the precondition says of the arguments: every step lies in the sequence, the transition scores are the forbidding
table, and every score is a real of absolute value at most a thousand.
-/
module

public import proofs.«01_k».proof.Pre_crf_inputs
public import Idealize.ShloMosaic.Lib.Pointwise
public import Idealize.ShloMosaic.Lib.ReduceAll
public import Idealize.ShloMosaic.Lib.ValueLayout

@[expose] public section

noncomputable section

namespace Cert.Inputs

open Cert.Pre_crf_inputs
open Idealize.ShloMosaic

theorem pre_facts : Cert.Pre_crf_inputs.Facts where
  bcast_S_S50x50 := by decide
  reducesTo_S128x512_S_d0_1 := by decide
  h_S_ := by decide
  reducesTo_S50x50_S_d0_1 := by decide
  bcast_S_S128x512x50 := by decide
  reducesTo_S128x512x50_S_d0_1_2 := by decide

/-- The transition scores: forbidden from the last tag and to the last but one, free otherwise. -/
def penalty (f t : Fin 50) : ℝ := if f.val = 49 ∨ t.val = 48 then -10000 else 0

theorem bits_forbid : Ideal.ofBits .f32 0xC61C4000#32 = ((-10000 : ℝ) : EReal) := by
  simp [Ideal.ofBits, Ideal.ieee, -EReal.coe_mul, -EReal.coe_neg]; norm_num

theorem bits_bound : Ideal.ofBits .f32 0x447A0000#32 = ((1000 : ℝ) : EReal) := by
  simp [Ideal.ofBits, Ideal.ieee, -EReal.coe_mul, -EReal.coe_neg]; norm_num

theorem bits_zero : Ideal.ofBits .f32 0x00000000#32 = ((0 : ℝ) : EReal) := by
  simp [Ideal.ofBits, Ideal.ieee]

/-- A number whose absolute value is at most a thousand is a real in that range. -/
theorem real_of_bounded (x : EReal) (h : max x (-x) ≤ ((1000 : ℝ) : EReal)) : ∃ r : ℝ, x = (r : EReal) ∧ |r| ≤ 1000 := by
  induction x with
  | bot => simp at h
  | top => simp at h
  | coe r =>
    refine ⟨r, rfl, ?_⟩
    rw [max_le_iff, ← EReal.coe_neg, EReal.coe_le_coe_iff, EReal.coe_le_coe_iff] at h
    exact abs_le'.mpr h

theorem of_ofBool {p : Bool} (h : BitVec.ofBool p = 1#1) : p = true := by
  cases p
  · exact absurd h (by decide)
  · rfl

instance : Subsingleton S_.Idx := ⟨fun a b => funext fun i => i.elim0⟩

theorem unpack [Cert.Pre_crf_inputs.Facts] (x : FVec Ideal S128x512x50 .f32) (mask : IVec S128x512 1) (tr : FVec Ideal S50x50 .f32)
    (h : Cert.Pre_crf_inputs.fn (F := Ideal) x mask tr = fun _ => 1#1) :
    (∀ i, mask i = 1#1) ∧ (∀ f t : Fin 50, (tr (ix2 f t) : EReal) = (penalty f t : EReal)) ∧ ∀ i, ∃ r : ℝ, (x i : EReal) = (r : EReal) ∧ |r| ≤ 1000 := by
  have h := congrFun h ix0
  dsimp only [Cert.Pre_crf_inputs.fn, Cert.Pre_crf_inputs.fn_part1] at h
  obtain ⟨h12, h16⟩ := IntOp.andi_eq_one.1 h
  obtain ⟨h7, h11⟩ := IntOp.andi_eq_one.1 h12
  refine ⟨fun i => Host.reduce_andi_all _ _ _ _ _ h7 i, fun f t => ?_, fun i => ?_⟩
  · have e := Host.reduce_andi_all _ _ _ _ _ h11 (ix2 f t)
    have e : Ideal.cmp .oeq (tr (ix2 f t) : EReal)
        (Scalar.select (IntOp.ori (IntOp.cmpi .eq (BitVec.ofNat 32 f.val) 49#32) (IntOp.cmpi .eq (BitVec.ofNat 32 t.val) 48#32))
          (Ideal.ofBits .f32 0xC61C4000#32) (Ideal.ofBits .f32 0x00000000#32)) = 1#1 := e
    have e1 : ∀ f t : Fin 50, IntOp.ori (IntOp.cmpi .eq (BitVec.ofNat 32 f.val) 49#32) (IntOp.cmpi .eq (BitVec.ofNat 32 t.val) 48#32)
        = BitVec.ofBool (decide (f.val = 49 ∨ t.val = 48)) := by decide +kernel
    rw [e1, bits_forbid, bits_zero] at e
    have e2 := of_ofBool e
    rw [decide_eq_true_iff] at e2
    rw [e2]
    unfold penalty
    by_cases hc : f.val = 49 ∨ t.val = 48
    · rw [if_pos hc]; simp [Scalar.select, hc]
    · rw [if_neg hc]; simp [Scalar.select, hc]
  · have e := Host.reduce_andi_all _ _ _ _ _ h16 i
    have e : Ideal.cmp .ole (max (x i : EReal) (-(x i : EReal))) (Ideal.ofBits .f32 0x447A0000#32) = 1#1 := e
    rw [bits_bound] at e
    exact real_of_bounded _ (of_decide_eq_true (of_ofBool e))

end Cert.Inputs

end
-- ==== Proof.Steps.lean ====
/-
The arithmetic of one step of the decoding: under the forbidding transition scores the running maxima of a step are its
scores plus one number, and the best tag to come from is the first greatest of the step's first forty-eight scores.
-/
module

public import proofs.«01_k».proof.Proof.First
public import proofs.«01_k».proof.Proof.Inputs

@[expose] public section

noncomputable section

namespace Cert.Steps

open Cert.Inputs Cert.Best

/-- The scores of a step restricted to the first forty-eight tags. -/
def low (x : Fin 50 → ℝ) : Fin 48 → ℝ := fun f => x (Fin.castLE (by decide) f)

/-- The best tag of a step. -/
def tag (x : Fin 50 → ℝ) : Fin 50 := Fin.castLE (by decide) (first (low x))

theorem tag_lt (x : Fin 50 → ℝ) : (tag x).val < 48 := (first (low x)).isLt

/-- Running maxima are the step's scores plus one number, but for a forbidden tag that is far below. -/
def Good (x : Fin 50 → ℝ) (M : ℝ) (p : Fin 50 → ℝ) : Prop := (∀ t : Fin 50, t.val ≠ 48 → p t = x t + M) ∧ p 48 ≤ M - 7000

theorem le_tag (x : Fin 50 → ℝ) (f : Fin 50) (hf : f.val < 48) : x f ≤ x (tag x) := le_top (low x) ⟨f.val, hf⟩

theorem lt_tag (x : Fin 50 → ℝ) (f : Fin 50) (hf : f < tag x) : x f < x (tag x) := by
  have h1 := tag_lt x
  have h2 : f.val < (tag x).val := hf
  exact lt_top_of_lt (v := low x) (f := ⟨f.val, by omega⟩) (show f.val < (first (low x)).val from h2)

theorem penalty_free (f t : Fin 50) (hf : f.val ≠ 49) (ht : t.val ≠ 48) : penalty f t = 0 := if_neg (by tauto)

theorem penalty_last (f t : Fin 50) (hf : f.val = 49) : penalty f t = -10000 := if_pos (.inl hf)

theorem penalty_start (f t : Fin 50) (ht : t.val = 48) : penalty f t = -10000 := if_pos (.inr ht)

/-- The first step is good. -/
theorem good_zero (x : Fin 50 → ℝ) (hx : ∀ t, |x t| ≤ 1000) : Good x 0 (fun t => x t + penalty 48 t) := by
  refine ⟨fun t ht => ?_, ?_⟩
  · show x t + penalty 48 t = x t + 0
    rw [penalty_free 48 t (by decide) ht]
  · have := (abs_le.mp (hx 48)).2
    show x 48 + penalty 48 48 ≤ _
    rw [penalty_start 48 48 rfl]
    linarith

variable {x : Fin 50 → ℝ} {M : ℝ} {p : Fin 50 → ℝ}

/-- Among the tags to come from, the best is the step's. -/
theorem core (hx : ∀ t, |x t| ≤ 1000) (h : Good x M p) (t : Fin 50) (ht : t.val ≠ 48) :
    (∀ f, penalty f t + p f ≤ penalty (tag x) t + p (tag x)) ∧ ∀ f, f < tag x → penalty f t + p f < penalty (tag x) t + p (tag x) := by
  have hg := tag_lt x
  have eg : penalty (tag x) t + p (tag x) = x (tag x) + M := by
    rw [penalty_free _ t (by omega) ht, h.1 _ (by omega), zero_add]
  have lg := (abs_le.mp (hx (tag x))).1
  rw [eg]
  have lowcase : ∀ f : Fin 50, f.val < 48 → penalty f t + p f = x f + M := fun f hf => by
    rw [penalty_free _ t (by omega) ht, h.1 _ (by omega), zero_add]
  refine ⟨fun f => ?_, fun f hf => ?_⟩
  · by_cases h48 : f.val < 48
    · rw [lowcase f h48]
      have := le_tag x f h48
      linarith
    · by_cases h49 : f.val = 49
      · rw [penalty_last f t h49, h.1 f (by omega)]
        have := (abs_le.mp (hx f)).2
        linarith
      · have e : f = 48 := Fin.ext (show f.val = 48 by have := f.isLt; omega)
        subst e
        rw [penalty_free _ t (by decide) ht]
        have := h.2
        linarith
  · have h2 : f.val < (tag x).val := hf
    rw [lowcase f (by omega)]
    have := lt_tag x f hf
    linarith

/-- One step: the choices, and that the new running maxima are good again. -/
theorem step (x' : Fin 50 → ℝ) (hx : ∀ t, |x t| ≤ 1000) (hx' : ∀ t, |x' t| ≤ 1000) (h : Good x M p) :
    ∃ g : Fin 50 → Fin 50, (∀ t f, x' t + penalty f t + p f ≤ x' t + penalty (g t) t + p (g t))
      ∧ (∀ t : Fin 50, t.val ≠ 48 → g t = tag x)
      ∧ (∀ t : Fin 50, t.val ≠ 48 → ∀ f, f < g t → x' t + penalty f t + p f < x' t + penalty (g t) t + p (g t))
      ∧ Good x' (x (tag x) + M) (fun t => x' t + penalty (g t) t + p (g t)) := by
  obtain ⟨w, hw⟩ := Finite.exists_max fun f : Fin 50 => p f
  refine ⟨fun t => if t.val = 48 then w else tag x, fun t f => ?_, fun t ht => if_neg ht, fun t ht f hf => ?_, fun t ht => ?_, ?_⟩
  · by_cases ht : t.val = 48
    · simp only [if_pos ht]
      rw [penalty_start _ t ht, penalty_start _ t ht]
      have := hw f
      linarith
    · simp only [if_neg ht]
      have := (core hx h t ht).1 f
      linarith
  · simp only [if_neg ht] at hf ⊢
    have := (core hx h t ht).2 f hf
    linarith
  · have hg := tag_lt x
    simp only [if_neg ht]
    rw [penalty_free _ t (by omega) ht, h.1 _ (by omega)]
    ring
  · show x' 48 + penalty (if (48 : Fin 50).val = 48 then w else tag x) 48 + p (if (48 : Fin 50).val = 48 then w else tag x) ≤ _
    have e48 : ((48 : Fin 50) : ℕ) = 48 := rfl
    simp only [e48, if_true]
    rw [penalty_start _ 48 rfl]
    have h1 := (abs_le.mp (hx' 48)).2
    have h2 := (abs_le.mp (hx (tag x))).1
    have h3 : p w ≤ M + 1000 := by
      by_cases hw48 : w.val = 48
      · have e : w = 48 := Fin.ext hw48
        have := h.2
        rw [e]
        linarith
      · rw [h.1 w hw48]
        have := (abs_le.mp (hx w)).2
        linarith
    linarith

end Cert.Steps

end
-- ==== Proof.RefBody0.lean ====
/-
One trip of the reference's first loop: what it makes of the running maxima and the two tables.
-/
module

public import proofs.«01_k».proof.Proof.RefReads0
public import proofs.«01_k».proof.Proof.Steps

@[expose] public section

noncomputable section

namespace Cert.ReferenceIdeal.Run

open Cert.ReferenceIdeal Cert.ReferenceIdeal.Gen
open Idealize.ShloMosaic Idealize.ShloMosaic.TcCoe Idealize.ShloMosaic.Tactic
open Idealize.ShloMosaic.StableHlo
open Cert.Inputs

/-- A stretch leaves a buffer it does not write. -/
theorem keep {ops : List (HloOp τ sig (Elt Ideal))} {W : List (Ref sig .tc)} {X Y : Valuation τ sig (Elt Ideal)} (e : Y = after ops X)
    (hw : ops.Forall fun op => op.writes ⊆ (W.map (Proc.devRef (τ := τ) .tc)).toFinset) (b : Ref sig .tc) (h : b ∉ W) :
    Y (Proc.devRef .tc b) = X (Proc.devRef .tc b) := by
  rw [e]
  exact after_of_writes_sub ops X hw h

theorem body0 {X Y0 Y1 Y2 Y3 Y4 Y5 Y6 Y7 Y8 Y9 Z : Valuation τ sig (Elt Ideal)}
    (e : Y0 = after cond0 X) (e0 : Y1 = after b0_0 Y0) (e1 : Y2 = after b0_1 Y1) (e2 : Y3 = after b0_2 Y2) (e3 : Y4 = after b0_3 Y3)
    (e4 : Y5 = after b0_4 Y4) (e5 : Y6 = after b0_5 Y5) (e6 : Y7 = after b0_6 Y6) (e7 : Y8 = after b0_7 Y7) (e8 : Y9 = after b0_8 Y8)
    (e9 : Z = after b0_9 Y9)
    {k : ℕ} (hk : k < 511) (hc : X (Proc.devRef .tc main_v16_3) = fun _ => BitVec.ofNat 32 k)
    (x p : Fin 128 → Fin 50 → ℝ) (hx : ∀ b t, X (Proc.devRef .tc main_v16_0) (ix3 (⟨k, hk⟩ : Fin 511) b t) = (x b t : EReal))
    (hm : ∀ b, X (Proc.devRef .tc main_v16_1) (ix2 (⟨k, hk⟩ : Fin 511) b) = 0#1)
    (hw : ∀ f t : Fin 50, X (Proc.devRef .tc main_v16_2) (ix2 f t) = (penalty f t : EReal))
    (hp : ∀ b f, X (Proc.devRef .tc main_v16_4) (ix2 b f) = (p b f : EReal))
    (g : Fin 128 → Fin 50 → Fin 50) (hg : ∀ b t f, x b t + penalty f t + p b f ≤ x b t + penalty (g b t) t + p b (g b t)) :
    (∀ b t, Z (Proc.devRef .tc main_v16_4) (ix2 b t) = ((x b t + penalty (g b t) t + p b (g b t) : ℝ) : EReal))
    ∧ (∀ b t, Z (Proc.devRef .tc main_v16_5) (ix3 (⟨k, hk⟩ : Fin 511) b t) = ((x b t + penalty (g b t) t + p b (g b t) : ℝ) : EReal))
    ∧ (∀ b t, (∀ f, f < g b t → x b t + penalty f t + p b f < x b t + penalty (g b t) t + p b (g b t)) →
        Z (Proc.devRef .tc main_v16_6) (ix3 (⟨k, hk⟩ : Fin 511) b t) = BitVec.ofNat 32 (g b t).val)
    ∧ (∀ (i : Fin 511) b t, i.val ≠ k → Z (Proc.devRef .tc main_v16_6) (ix3 i b t) = X (Proc.devRef .tc main_v16_6) (ix3 i b t)) := by
  have k0 := keep e cond0_writes
  have k1 := keep e0 b0_0_writes
  have k2 := keep e1 b0_1_writes
  have k3 := keep e2 b0_2_writes
  have k4 := keep e3 b0_3_writes
  have k5 := keep e4 b0_4_writes
  have k6 := keep e5 b0_5_writes
  have k7 := keep e6 b0_6_writes
  have k8 := keep e7 b0_7_writes
  have k9 := keep e8 b0_8_writes
  -- the counter at every stretch that reads it
  have c0 : Y0 (Proc.devRef .tc main_v16_3) = fun _ => BitVec.ofNat 32 k := (k0 _ (by decide +kernel)).trans hc
  have c1 : Y1 (Proc.devRef .tc main_v16_3) = fun _ => BitVec.ofNat 32 k := (k1 _ (by decide +kernel)).trans c0
  have c7 : Y7 (Proc.devRef .tc main_v16_3) = fun _ => BitVec.ofNat 32 k := by
    rw [k7 _ (by decide +kernel), k6 _ (by decide +kernel), k5 _ (by decide +kernel), k4 _ (by decide +kernel), k3 _ (by decide +kernel),
      k2 _ (by decide +kernel), c1]
  have c8 : Y8 (Proc.devRef .tc main_v16_3) = fun _ => BitVec.ofNat 32 k := (k8 _ (by decide +kernel)).trans c7
  -- the sums
  have h78 : ∀ b (f t : Fin 50), Y3 (Proc.devRef .tc main_while0b_v78) (ix3 b f t) = ((x b t + penalty f t + p b f : ℝ) : EReal) := by
    intro b f t
    rw [e2]
    refine s0_2 Y2 b f t _ _ _ ?_ ?_ ?_
    · rw [k2 _ (by decide +kernel), e0, s0_0 Y0 hk c0, k0 _ (by decide +kernel), hx]
    · rw [k2 _ (by decide +kernel), k1 _ (by decide +kernel), k0 _ (by decide +kernel), hw]
    · rw [k2 _ (by decide +kernel), k1 _ (by decide +kernel), k0 _ (by decide +kernel), hp]
  have h82 : ∀ b t, Y7 (Proc.devRef .tc main_while0b_v82) (ix2 b t) = ((x b t + penalty (g b t) t + p b (g b t) : ℝ) : EReal) := by
    intro b t
    rw [e6]
    refine s0_6 Y6 b t (fun f => x b t + penalty f t + p b f) (g b t) (fun f => ?_) (hg b t)
    rw [k6 _ (by decide +kernel), k5 _ (by decide +kernel), k4 _ (by decide +kernel), h78]
  refine ⟨fun b t => ?_, fun b t => ?_, fun b t hlt => ?_, fun i b t hi => ?_⟩
  · rw [e9, s0_9_4, k9 _ (by decide +kernel), k8 _ (by decide +kernel), h82]
  · rw [e9, s0_9_5, k9 _ (by decide +kernel), e7, s0_7 Y7 hk c7, if_pos rfl, h82]
  · have h80 : Y5 (Proc.devRef .tc main_while0b_v80) (ix2 b (0 : Fin 1)) = 0#1 := by
      rw [e4, s0_4, k4 _ (by decide +kernel), k3 _ (by decide +kernel), e1, s0_1 Y1 hk c1, k1 _ (by decide +kernel), k0 _ (by decide +kernel), hm]
    rw [e9, s0_9_6, e8, s0_8 Y8 hk c8, if_pos rfl, k8 _ (by decide +kernel), k7 _ (by decide +kernel), e5, s0_5 Y5 b t h80,
      k5 _ (by decide +kernel), e3]
    exact s0_3 Y3 b t (fun f => x b t + penalty f t + p b f) (g b t) (fun f => h78 b f t) (hg b t) hlt
  · rw [e9, s0_9_6, e8, s0_8 Y8 hk c8, if_neg hi, k8 _ (by decide +kernel), k7 _ (by decide +kernel), k6 _ (by decide +kernel),
      k5 _ (by decide +kernel), k4 _ (by decide +kernel), k3 _ (by decide +kernel), k2 _ (by decide +kernel), k1 _ (by decide +kernel),
      k0 _ (by decide +kernel)]

end Cert.ReferenceIdeal.Run

end
-- ==== Proof.RefStart.lean ====
/-
What the stretch before the first loop leaves at an index.
-/
module

public import proofs.«01_k».proof.Proof.RefBody0

@[expose] public section

noncomputable section

namespace Cert.ReferenceIdeal.Run

open Cert.ReferenceIdeal Cert.ReferenceIdeal.Gen
open Idealize.ShloMosaic Idealize.ShloMosaic.TcCoe Idealize.ShloMosaic.Tactic
open Idealize.ShloMosaic.StableHlo
open Cert.Inputs

variable (X : Valuation τ sig (Elt Ideal))

set_option maxRecDepth 100000

theorem o0_scores (i : Fin 511) (b : Fin 128) (t : Fin 50) :
    after ops0 X (Proc.devRef .tc main_v16_0) (ix3 i b t) = X (Proc.devRef .tc main_arg0) (ix3 b (⟨i.val + 1, by omega⟩ : Fin 512) t) := by
  after_reads_at
  show extractStridedSlice S511x128x50 ![1, 0, 0]
        (transpose S512x128x50 [1, 0, 2] (X (Proc.devRef .tc main_arg0)) transposes_S128x512x50_S512x128x50_1_0_2)
        slices_S512x128x50_S511x128x50_1_0_0 (ix3 i b t) = _
  pointwise
  simp only [Nat.add_comm 1]

theorem o0_mask (i : Fin 511) (b : Fin 128) (h : ∀ j, X (Proc.devRef .tc main_arg1) j = 1#1) :
    after ops0 X (Proc.devRef .tc main_v16_1) (ix2 i b) = 0#1 := by
  after_reads_at
  show extractStridedSlice S511x128 ![1, 0]
        (noti (transpose S512x128 [1, 0] (X (Proc.devRef .tc main_arg1)) transposes_S128x512_S512x128_1_0))
        slices_S512x128_S511x128_1_0 (ix2 i b) = _
  pointwise
  rw [h]
  try rfl

theorem o0_trans : after ops0 X (Proc.devRef .tc main_v16_2) = X (Proc.devRef .tc main_arg2) := by
  after_reads_simp
  try rfl

theorem o0_first (b : Fin 128) (t : Fin 50) (x : ℝ) (hx : X (Proc.devRef .tc main_arg0) (ix3 b (0 : Fin 512) t) = (x : EReal))
    (hw : X (Proc.devRef .tc main_arg2) (ix2 (48 : Fin 50) t) = (penalty 48 t : EReal)) :
    after ops0 X (Proc.devRef .tc main_v11) (ix2 b t) = ((x + penalty 48 t : ℝ) : EReal) := by
  after_reads_at
  rw [hx, hw, EReal.coe_add]

theorem o0_first' : after ops0 X (Proc.devRef .tc main_v16_4) = after ops0 X (Proc.devRef .tc main_v11) := by
  after_reads_simp
  try rfl

theorem o0_length (b : Fin 128) (h : ∀ j, X (Proc.devRef .tc main_arg1) j = 1#1) :
    after ops0 X (Proc.devRef .tc main_v1) (ix1 b) = 512#32 := by
  after_reads_at
  simp only [h]
  decide +kernel

end Cert.ReferenceIdeal.Run

end
-- ==== Proof.RefLoop0.lean ====
/-
The reference's first loop under the precondition: before trip `k` the running maxima are good for step `k`, and the
first `k` rows of the table of back pointers hold the best tags of the first `k` steps.
-/
module

public import proofs.«01_k».proof.Proof.RefStart

@[expose] public section

noncomputable section

namespace Cert.ReferenceIdeal.Run

open Cert.ReferenceIdeal Cert.ReferenceIdeal.Gen
open Idealize.ShloMosaic Idealize.ShloMosaic.TcCoe Idealize.ShloMosaic.Tactic
open Idealize.ShloMosaic.StableHlo
open Cert.Inputs Cert.Steps

variable (m : (ℓ : Loc nD τ sig) → Buf (Elt Ideal) ℓ) (c : Dev nD)

/-- The arguments of a core hold real scores `z`, a full mask and the forbidding transition scores. -/
structure Args (z : Fin 128 → ℕ → Fin 50 → ℝ) : Prop where
  scores : ∀ (b : Fin 128) (s : Fin 512) (t : Fin 50), m ((c : Thread nD τ).loc main_arg0) (ix3 b s t) = (z b s.val t : EReal)
  bound : ∀ b s t, |z b s t| ≤ 1000
  mask : ∀ j, m ((c : Thread nD τ).loc main_arg1) j = 1#1
  trans : ∀ f t : Fin 50, m ((c : Thread nD τ).loc main_arg2) (ix2 f t) = (penalty f t : EReal)

/-- A counter that starts at zero and goes up by one. -/
theorem iv_word (k : ℕ) : Scf.iv 0#32 1#32 k = BitVec.ofNat 32 k := by
  induction k with
  | zero => rw [Scf.iv_zero]
  | succ k ih => rw [Scf.iv_succ, ih]; exact (BitVec.ofNat_add k 1).symm

/-- The first loop leaves a buffer it does not write. -/
theorem kept0 (b : Ref sig .tc)
    (h : ∀ W ∈ ([cond0_W, b0_0_W, b0_1_W, b0_2_W, b0_3_W, b0_4_W, b0_5_W, b0_6_W, b0_7_W, b0_8_W] : List (List (Ref sig .tc))), b ∉ W)
    (h9 : b ∉ b0_9_W) : ∀ k, at0 m k c (Proc.devRef .tc b) = start0 m c (Proc.devRef .tc b)
  | 0 => rfl
  | k + 1 => by
    rw [show at0 m (k + 1) c = afterL body0I (after cond0 (at0 m k c)) from rfl]
    simp only [afterL_cons, afterL_nil]
    rw [after_of_writes_sub b0_9 _ b0_9_writes h9, through0 _ b h]
    exact kept0 b h h9 k

/-- The state before the first loop is the first stretch's. -/
theorem start0_eq (b : Ref sig .tc) : start0 m c (Proc.devRef .tc b) = after ops0 (launchContents m c) (Proc.devRef .tc b) := rfl

variable {m c} {z : Fin 128 → ℕ → Fin 50 → ℝ}

theorem inv0 (A : Args m c z) : ∀ k, k ≤ 511 →
    (∀ b, ∃ (M : ℝ) (p : Fin 50 → ℝ), (∀ t, at0 m k c (Proc.devRef .tc main_v16_4) (ix2 b t) = (p t : EReal)) ∧ Good (z b k) M p)
    ∧ (∀ (i : Fin 511) b t, i.val + 1 = k → at0 m k c (Proc.devRef .tc main_v16_5) (ix3 i b t) = at0 m k c (Proc.devRef .tc main_v16_4) (ix2 b t))
    ∧ (∀ (i : Fin 511) b (t : Fin 50), i.val < k → t.val ≠ 48 →
        at0 m k c (Proc.devRef .tc main_v16_6) (ix3 i b t) = BitVec.ofNat 32 (tag (z b i.val)).val)
  | 0, _ => by
    refine ⟨fun b => ⟨0, fun t => z b 0 t + penalty 48 t, fun t => ?_, good_zero _ (A.bound b 0)⟩, fun i b t h => by omega, fun i b t h => by omega⟩
    rw [show at0 m 0 c = start0 m c from rfl, start0_eq, o0_first']
    exact o0_first _ b t _ (A.scores b 0 t) (A.trans 48 t)
  | k + 1, hk => by
    obtain ⟨h4, -, h6⟩ := inv0 A k (by omega)
    choose M p hp hgood using h4
    choose g hg htag hlt hnew using fun b => step (z b (k + 1)) (A.bound b k) (A.bound b (k + 1)) (hgood b)
    have hx : ∀ b t, at0 m k c (Proc.devRef .tc main_v16_0) (ix3 (⟨k, hk⟩ : Fin 511) b t) = (z b (k + 1) t : EReal) := by
      intro b t
      rw [kept0 m c main_v16_0 (by decide +kernel) (by decide +kernel), start0_eq, o0_scores]
      exact A.scores b _ t
    have hm : ∀ b, at0 m k c (Proc.devRef .tc main_v16_1) (ix2 (⟨k, hk⟩ : Fin 511) b) = 0#1 := by
      intro b
      rw [kept0 m c main_v16_1 (by decide +kernel) (by decide +kernel), start0_eq]
      exact o0_mask _ _ b A.mask
    have hw : ∀ f t : Fin 50, at0 m k c (Proc.devRef .tc main_v16_2) (ix2 f t) = (penalty f t : EReal) := by
      intro f t
      rw [kept0 m c main_v16_2 (by decide +kernel) (by decide +kernel), start0_eq, o0_trans]
      exact A.trans f t
    have hc : at0 m k c (Proc.devRef .tc main_v16_3) = fun _ => BitVec.ofNat 32 k := by
      rw [counter0 m c k, iv_word]
    obtain ⟨r4, r5, r6, r7⟩ := body0 (X := at0 m k c) (Z := at0 m (k + 1) c) rfl rfl rfl rfl rfl rfl rfl rfl rfl rfl rfl hk hc
      (fun b => z b (k + 1)) p hx hm hw hp g hg
    refine ⟨fun b => ⟨_, _, r4 b, hnew b⟩, fun i b t hi => ?_, fun i b t hi ht => ?_⟩
    · have e : i = ⟨k, hk⟩ := Fin.ext (by show i.val = k; omega)
      rw [e, r5, r4]
    · by_cases e : i.val = k
      · have e' : i = ⟨k, hk⟩ := Fin.ext e
        rw [e', r6 b t (hlt b t ht), htag b t ht]
      · rw [r7 i b t e]
        exact h6 i b t (by omega) ht

end Cert.ReferenceIdeal.Run

end
-- ==== Proof.RefMiddle.lean ====
/-
Between the reference's loops: the last tag is read off the last running maxima, and the table of back pointers loses the
row the scatter wrote.
-/
module

public import proofs.«01_k».proof.Proof.RefLoop0

@[expose] public section

noncomputable section

namespace Cert.ReferenceIdeal.Run

open Cert.ReferenceIdeal Cert.ReferenceIdeal.Gen
open Idealize.ShloMosaic Idealize.ShloMosaic.TcCoe Idealize.ShloMosaic.Tactic
open Idealize.ShloMosaic.StableHlo
open Cert.Inputs Cert.Steps

variable (X : Valuation τ sig (Elt Ideal))

set_option maxRecDepth 100000

theorem o1_last (b : Fin 128) (h : X (Proc.devRef .tc main_v1) (ix1 b) = 512#32) : after ops1 X (Proc.devRef .tc main_v20) (ix1 b) = 511#32 := by
  after_reads_at
  rw [h]
  rfl

theorem o1_table (b : Fin 128) (t : Fin 50) :
    after ops1 X (Proc.devRef .tc main_v18) (ix3 (511 : Fin 512) b t) = X (Proc.devRef .tc main_v16_5) (ix3 (510 : Fin 511) b t) := by
  after_reads_at

theorem o1_row (b : Fin 128) (h : X (Proc.devRef .tc main_v1) (ix1 b) = 512#32) :
    after ops1 X (Proc.devRef .tc main_v34) (ix2 b (0 : Fin 2)) = BitVec.ofNat 32 511 := by
  after_reads_at
  rw [h]
  rfl

theorem o1_col (b : Fin 128) :
    after ops1 X (Proc.devRef .tc main_v34) (ix2 b (1 : Fin 2)) = BitVec.ofNat 32 b.val := by
  after_reads_at
  exact Routing.wrap_of_lt _ _ (by rw [BitVec.toNat_ofNat]; omega)

theorem o1_gather : after ops1 X (Proc.devRef .tc main_v35)
    = (Host.gather gather_S512x128x50_S128x2_S128x50_1_01_n_n_01_1_1150 (after ops1 X (Proc.devRef .tc main_v18)) (after ops1 X (Proc.devRef .tc main_v34))) := by
  after_reads_simp
  try rfl

theorem o1_sums (y : S128x50.Idx → EReal) (hy : after ops1 X (Proc.devRef .tc main_v35) = y) (b : Fin 128) (f t : Fin 50) (p w : ℝ)
    (hp : y (ix2 b f) = (p : EReal)) (hw : X (Proc.devRef .tc main_arg2) (ix2 f t) = (w : EReal)) :
    after ops1 X (Proc.devRef .tc main_v40) (ix3 b f t) = ((p + w : ℝ) : EReal) := by
  have e : after ops1 X (Proc.devRef .tc main_v40) = addf (F := Ideal) (φ := .f32)
      (broadcastInDim S128x50x50 ![0, 1, 2] bcast_S128x50x1_S128x50x50_0_1_2 (broadcastInDim S128x50x1 ![0, 1] bcast_S128x50_S128x50x1_0_1 y))
      (broadcastInDim S128x50x50 ![0, 1, 2] bcast_S1x50x50_S128x50x50_0_1_2
        (broadcastInDim S1x50x50 ![1, 2] bcast_S50x50_S1x50x50_1_2 (X (Proc.devRef .tc main_arg2)))) := by
    rw [← hy]
    after_reads_simp
    try rfl
  rw [e]
  pointwise
  rw [hp, hw, EReal.coe_add]

/-- The arg-max between the loops. -/
theorem oArg (b : Fin 128) (t : Fin 50) (y : Fin 50 → ℝ) (g : Fin 50)
    (hy : ∀ f : Fin 50, X (Proc.devRef .tc main_v40) (ix3 b f t) = (y f : EReal))
    (htop : ∀ f, y f ≤ y g) (hlt : ∀ f, f < g → y f < y g) :
    after opsArg X (Proc.devRef .tc main_v41) (ix2 b t) = BitVec.ofNat 32 g.val := by
  have e : after opsArg X (Proc.devRef .tc main_v41)
      = fun j => (Host.argReduce (F := Ideal) reducer_argmax_f32_i32 (X (Proc.devRef .tc main_v40)) (iotaInDim S128x50x50 32 1)
          (constant S_ .f32 0xFF800000#32) (constantI S_ 32 0#32) reducesTo_S128x50x50_S128x50_d1 h_S_ j).2 := by
    after_reads_simp
    rfl
  rw [e]
  refine argmax_at _ _ _ _ b t g (fun f => rfl) (fun _ => Best.bits_bot) (fun f => ?_) (fun f hf => ?_) ?_
  · rw [hy, hy]; exact EReal.coe_le_coe_iff.mpr (htop f)
  · rw [hy, hy]; exact EReal.coe_lt_coe_iff.mpr (hlt f hf)
  · rw [hy]; exact EReal.bot_lt_coe _

theorem o2_last (b : Fin 128) : after ops2 X (Proc.devRef .tc main_v43) (ix1 b) = X (Proc.devRef .tc main_v41) (ix2 b (49 : Fin 50)) := by
  after_reads_at

theorem o3_table (i : Fin 511) (b : Fin 128) (t : Fin 50) :
    after ops3 X (Proc.devRef .tc main_v45) (ix3 (⟨i.val, by omega⟩ : Fin 512) b t) = X (Proc.devRef .tc main_v16_6) (ix3 i b t) := by
  after_reads_at

theorem o3_row (b : Fin 128) (h : X (Proc.devRef .tc main_v20) (ix1 b) = 511#32) :
    after ops3 X (Proc.devRef .tc main_v60) (ix2 b (0 : Fin 2)) = BitVec.ofNat 32 511 := by
  after_reads_at
  rw [h]
  rfl

theorem o3_scatter : ∃ u : S128x50.Idx → BitVec 32, after ops3 X (Proc.devRef .tc main_v62)
    = Host.scatter scatter_S512x128x50_S128x2_S128x50_1_01_01_1 (fun _ b => b) (after ops3 X (Proc.devRef .tc main_v45)) (after ops3 X (Proc.devRef .tc main_v60)) u := by
  refine ⟨after ops3 X (Proc.devRef .tc main_v61), ?_⟩
  after_reads_simp
  try rfl

theorem o3_cut (y : S512x128x50.Idx → BitVec 32) (hy : after ops3 X (Proc.devRef .tc main_v62) = y) (i : Fin 511) (b : Fin 128) (t : Fin 50) :
    after ops3 X (Proc.devRef .tc main_v65_0) (ix3 i b t) = y (ix3 (⟨i.val, by omega⟩ : Fin 512) b t) := by
  have e : after ops3 X (Proc.devRef .tc main_v65_0) = extractStridedSlice S511x128x50 ![0, 0, 0] y slices_S512x128x50_S511x128x50_0_0_0 := by
    rw [← hy]
    after_reads_simp
    exact id_eq _
  rw [e]
  pointwise

theorem o3_pointer : after ops3 X (Proc.devRef .tc main_v65_2) = X (Proc.devRef .tc main_v43) := by
  after_reads_simp
  try rfl

variable {m : (ℓ : Loc nD τ sig) → Buf (Elt Ideal) ℓ} {c : Dev nD} {z : Fin 128 → ℕ → Fin 50 → ℝ}

/-- What the second loop starts from. -/
theorem middle (A : Args m c z) :
    (∀ (i : Fin 511) b (t : Fin 50), t.val ≠ 48 → start1 m c (Proc.devRef .tc main_v65_0) (ix3 i b t) = BitVec.ofNat 32 (tag (z b i.val)).val)
    ∧ (∀ b : Fin 128, start1 m c (Proc.devRef .tc main_v65_2) (ix1 b) = BitVec.ofNat 32 (tag (z b 511)).val)
    ∧ (∀ b : Fin 128, start1 m c (Proc.devRef .tc main_v43) (ix1 b) = BitVec.ofNat 32 (tag (z b 511)).val) := by
  obtain ⟨h4, h5, h6⟩ := inv0 A 511 le_rfl
  have hlen : ∀ b : Fin 128, at0 m 511 c (Proc.devRef .tc main_v1) (ix1 b) = 512#32 := by
    intro b
    rw [kept0 m c main_v1 (by decide +kernel) (by decide +kernel), start0_eq]
    exact o0_length _ b A.mask
  have hw : ∀ f t : Fin 50, at0 m 511 c (Proc.devRef .tc main_arg2) (ix2 f t) = (penalty f t : EReal) := by
    intro f t
    rw [kept0 m c main_arg2 (by decide +kernel) (by decide +kernel), start0_eq,
      after_of_writes_sub ops0 _ ops0_writes (by decide +kernel)]
    exact A.trans f t
  have main : ∀ (Y Z0 Z1 Z2 Z3 Z4 : Valuation τ sig (Elt Ideal)), Y = at0 m 511 c → Z0 = after cond0 Y → Z1 = after ops1 Z0 →
      Z2 = after opsArg Z1 → Z3 = after ops2 Z2 → Z4 = after ops3 Z3 →
      (∀ (i : Fin 511) b (t : Fin 50), t.val ≠ 48 → Z4 (Proc.devRef .tc main_v65_0) (ix3 i b t) = BitVec.ofNat 32 (tag (z b i.val)).val)
      ∧ (∀ b : Fin 128, Z4 (Proc.devRef .tc main_v65_2) (ix1 b) = BitVec.ofNat 32 (tag (z b 511)).val)
      ∧ (∀ b : Fin 128, Z4 (Proc.devRef .tc main_v43) (ix1 b) = BitVec.ofNat 32 (tag (z b 511)).val) := by
    intro Y Z0 Z1 Z2 Z3 Z4 eY e0 e1 e2 e3 e4
    rw [← eY] at h4 h5 h6 hlen hw
    have k0 := keep e0 cond0_writes
    have k1 := keep e1 ops1_writes
    have k2 := keep e2 opsArg_writes
    have k3 := keep e3 ops2_writes
    have k4 := keep e4 ops3_writes
    have hlast : ∀ b : Fin 128, Z3 (Proc.devRef .tc main_v43) (ix1 b) = BitVec.ofNat 32 (tag (z b 511)).val := by
      intro b
      obtain ⟨M, p, hp, hgood⟩ := h4 b
      rw [e3, o2_last, e2]
      have hc := core (A.bound b 511) hgood 49 (by decide)
      refine oArg Z1 b 49 (fun f => p f + penalty f 49) (tag (z b 511)) (fun f => ?_) (fun f => ?_) (fun f hf => ?_)
      · rw [e1]
        refine o1_sums Z0 _ rfl b f 49 _ _ ?_ ?_
        · rw [o1_gather, gather3_at _ _ b f 511 b (o1_row Z0 b (by rw [k0 _ (by decide +kernel)]; exact hlen b)) (o1_col Z0 b),
            o1_table, k0 _ (by decide +kernel), h5 510 b f rfl, hp]
        · rw [k0 _ (by decide +kernel), hw]
      · have := hc.1 f
        show p f + penalty f 49 ≤ p (tag (z b 511)) + penalty (tag (z b 511)) 49
        linarith
      · have := hc.2 f hf
        show p f + penalty f 49 < p (tag (z b 511)) + penalty (tag (z b 511)) 49
        linarith
    refine ⟨fun i b t ht => ?_, fun b => ?_, fun b => ?_⟩
    · obtain ⟨u, hu⟩ := o3_scatter Z3
      have hv20 : ∀ q : Fin 128, Z3 (Proc.devRef .tc main_v20) (ix1 q) = 511#32 := by
        intro q
        rw [k3 _ (by decide +kernel), k2 _ (by decide +kernel), e1]
        exact o1_last Z0 q (by rw [k0 _ (by decide +kernel)]; exact hlen q)
      rw [e4, o3_cut Z3 _ hu i b t]
      refine (scatter_at_other _ _ u (⟨i.val, by omega⟩ : Fin 512) b t fun q => ?_).trans ?_
      · rw [o3_row Z3 q (hv20 q), toInt_ofNat_of_lt (by decide)]
        have := i.isLt
        show ((511 : ℕ) : ℤ) ≠ ((i.val : ℕ) : ℤ)
        omega
      rw [o3_table, k3 _ (by decide +kernel), k2 _ (by decide +kernel), k1 _ (by decide +kernel), k0 _ (by decide +kernel)]
      exact h6 i b t i.isLt ht
    · rw [e4, o3_pointer, hlast]
    · rw [k4 _ (by decide +kernel), hlast]
  exact main _ _ _ _ _ _ rfl rfl rfl rfl rfl rfl

end Cert.ReferenceIdeal.Run

end
-- ==== Proof.RefLoop1.lean ====
/-
The reference's second loop under the precondition: it walks the table of back pointers down from the last tag, and at
every step finds the best tag of that step.
-/
module

public import proofs.«01_k».proof.Proof.RefMiddle

@[expose] public section

noncomputable section

namespace Cert.ReferenceIdeal.Run

open Cert.ReferenceIdeal Cert.ReferenceIdeal.Gen
open Idealize.ShloMosaic Idealize.ShloMosaic.TcCoe Idealize.ShloMosaic.Tactic
open Idealize.ShloMosaic.StableHlo
open Cert.Inputs Cert.Steps

section Reads

variable (X : Valuation τ sig (Elt Ideal))

/-- Trip `k` works on row `510 - k`. -/
theorem s1_0 {k : ℕ} (hk : k < 511) (hc : X (Proc.devRef .tc main_v65_1) = fun _ => BitVec.ofNat 32 k) :
    after b1_0 X (Proc.devRef .tc main_while1b_v70) = fun _ => BitVec.ofNat 32 (510 - k) := by
  have e : after b1_0 X (Proc.devRef .tc main_while1b_v70)
      = subi (subi (constantI S_ 32 511#32) (X (Proc.devRef .tc main_v65_1))) (constantI S_ 32 1#32) := by
    after_reads_simp
    try rfl
  rw [e, hc]
  funext j
  show (511#32 - BitVec.ofNat 32 k) - 1#32 = BitVec.ofNat 32 (510 - k)
  apply BitVec.eq_of_toNat_eq
  simp only [BitVec.toNat_sub, BitVec.toNat_ofNat]
  omega

theorem s1_1 {r : ℕ} (hr : r < 511) (hc : X (Proc.devRef .tc main_while1b_v70) = fun _ => BitVec.ofNat 32 r) (b : Fin 128) (t : Fin 50) :
    after b1_1 X (Proc.devRef .tc main_while1b_v71) (ix2 b t) = X (Proc.devRef .tc main_v65_0) (ix3 (⟨r, hr⟩ : Fin 511) b t) := by
  apply row3_at hr
  · after_reads_simp
    rfl
  · show BitVec.toInt (X (Proc.devRef .tc main_while1b_v70) (Shape.Idx.first h_S_)) = _
    rw [hc]
    exact toInt_ofNat_of_lt (by omega)
  · rfl
  · rfl

theorem s1_2_row (b : Fin 128) : after b1_2 X (Proc.devRef .tc main_while1b_v85) (ix2 b (0 : Fin 2)) = BitVec.ofNat 32 b.val := by
  after_reads_at
  exact Routing.wrap_of_lt _ _ (by rw [BitVec.toNat_ofNat]; omega)

theorem s1_2_col (b : Fin 128) (t : Fin 50) (h : X (Proc.devRef .tc main_v65_2) (ix1 b) = BitVec.ofNat 32 t.val) :
    after b1_2 X (Proc.devRef .tc main_while1b_v85) (ix2 b (1 : Fin 2)) = BitVec.ofNat 32 t.val := by
  after_reads_at
  rw [h]
  exact Routing.wrap_of_lt _ _ (by rw [BitVec.toNat_ofNat]; omega)

theorem s1_2_gather : after b1_2 X (Proc.devRef .tc main_while1b_v86)
    = Host.gather gather_S128x50_S128x2_S128_n_01_n_n_01_1_11 (X (Proc.devRef .tc main_while1b_v71)) (after b1_2 X (Proc.devRef .tc main_while1b_v85)) := by
  after_reads_simp
  try rfl

/-- The pointer moves to what the row holds at it. -/
theorem s1_2 (b : Fin 128) (t : Fin 50) (h : X (Proc.devRef .tc main_v65_2) (ix1 b) = BitVec.ofNat 32 t.val) :
    after b1_2 X (Proc.devRef .tc main_while1b_v86) (ix1 b) = X (Proc.devRef .tc main_while1b_v71) (ix2 b t) := by
  rw [s1_2_gather]
  exact gather2_at _ _ b b t (s1_2_row X b) (s1_2_col X b t h)

theorem s1_3 {r : ℕ} (hr : r < 511) (hc : X (Proc.devRef .tc main_while1b_v70) = fun _ => BitVec.ofNat 32 r) (i : Fin 511) (b : Fin 128) :
    after b1_3 X (Proc.devRef .tc main_while1b_v87) (ix2 i b)
      = if i.val = r then X (Proc.devRef .tc main_while1b_v86) (ix1 b) else X (Proc.devRef .tc main_v65_3) (ix2 i b) := by
  apply put2_at hr
  · after_reads_simp
    rfl
  · show BitVec.toInt (X (Proc.devRef .tc main_while1b_v70) (Shape.Idx.first h_S_)) = _
    rw [hc]
    exact toInt_ofNat_of_lt (by omega)
  · rfl

theorem s1_4_2 : after b1_4 X (Proc.devRef .tc main_v65_2) = X (Proc.devRef .tc main_while1b_v86) := by
  after_reads_simp
  try rfl

theorem s1_4_3 : after b1_4 X (Proc.devRef .tc main_v65_3) = X (Proc.devRef .tc main_while1b_v87) := by
  after_reads_simp
  try rfl

/-- The result: the rows the loop wrote, then the last tag. -/
theorem o4_row (b : Fin 128) (i : Fin 511) :
    after ops4 X (Proc.devRef .tc main_v68) (ix2 b (⟨i.val, by omega⟩ : Fin 512)) = X (Proc.devRef .tc main_v65_3) (ix2 i b) := by
  after_reads_at
  rfl

theorem o4_last (b : Fin 128) :
    after ops4 X (Proc.devRef .tc main_v68) (ix2 b (511 : Fin 512)) = X (Proc.devRef .tc main_v43) (ix1 b) := by
  after_reads_at
  have e : upto ops4 X 1 (Proc.devRef .tc main_v66) = broadcastInDim S1x128 ![1] bcast_S128_S1x128_1 (X (Proc.devRef .tc main_v43)) := rfl
  rw [e]
  pointwise

end Reads

/-- One trip of the second loop. -/
theorem body1 {X Y0 Y1 Y2 Y3 Y4 Z : Valuation τ sig (Elt Ideal)}
    (e : Y0 = after cond1 X) (e0 : Y1 = after b1_0 Y0) (e1 : Y2 = after b1_1 Y1) (e2 : Y3 = after b1_2 Y2) (e3 : Y4 = after b1_3 Y3)
    (e4 : Z = after b1_4 Y4) {k : ℕ} (hk : k < 511) (hc : X (Proc.devRef .tc main_v65_1) = fun _ => BitVec.ofNat 32 k)
    (p : Fin 128 → Fin 50) (hp : ∀ b : Fin 128, X (Proc.devRef .tc main_v65_2) (ix1 b) = BitVec.ofNat 32 (p b).val) :
    (∀ b : Fin 128, Z (Proc.devRef .tc main_v65_2) (ix1 b) = X (Proc.devRef .tc main_v65_0) (ix3 (⟨510 - k, by omega⟩ : Fin 511) b (p b)))
    ∧ (∀ (i : Fin 511) (b : Fin 128), i.val = 510 - k →
        Z (Proc.devRef .tc main_v65_3) (ix2 i b) = X (Proc.devRef .tc main_v65_0) (ix3 (⟨510 - k, by omega⟩ : Fin 511) b (p b)))
    ∧ (∀ (i : Fin 511) (b : Fin 128), i.val ≠ 510 - k → Z (Proc.devRef .tc main_v65_3) (ix2 i b) = X (Proc.devRef .tc main_v65_3) (ix2 i b)) := by
  have hr : 510 - k < 511 := by omega
  have k0 := keep e cond1_writes
  have k1 := keep e0 b1_0_writes
  have k2 := keep e1 b1_1_writes
  have k3 := keep e2 b1_2_writes
  have k4 := keep e3 b1_3_writes
  have c1 : Y1 (Proc.devRef .tc main_while1b_v70) = fun _ => BitVec.ofNat 32 (510 - k) := by
    rw [e0]
    exact s1_0 Y0 hk (by rw [k0 _ (by decide +kernel), hc])
  have c3 : Y3 (Proc.devRef .tc main_while1b_v70) = fun _ => BitVec.ofNat 32 (510 - k) := by
    rw [k3 _ (by decide +kernel), k2 _ (by decide +kernel), c1]
  have h86 : ∀ b : Fin 128, Y3 (Proc.devRef .tc main_while1b_v86) (ix1 b)
      = X (Proc.devRef .tc main_v65_0) (ix3 (⟨510 - k, hr⟩ : Fin 511) b (p b)) := by
    intro b
    rw [e2, s1_2 Y2 b (p b) (by rw [k2 _ (by decide +kernel), k1 _ (by decide +kernel), k0 _ (by decide +kernel), hp]), e1,
      s1_1 Y1 hr c1, k1 _ (by decide +kernel), k0 _ (by decide +kernel)]
  refine ⟨fun b => ?_, fun i b hi => ?_, fun i b hi => ?_⟩
  · rw [e4, s1_4_2, k4 _ (by decide +kernel), h86]
  · rw [e4, s1_4_3, e3, s1_3 Y3 hr c3, if_pos hi, h86]
  · rw [e4, s1_4_3, e3, s1_3 Y3 hr c3, if_neg hi, k3 _ (by decide +kernel), k2 _ (by decide +kernel), k1 _ (by decide +kernel),
      k0 _ (by decide +kernel)]

section Loop

variable (m : (ℓ : Loc nD τ sig) → Buf (Elt Ideal) ℓ) (c : Dev nD)

/-- The second loop leaves a buffer it does not write. -/
theorem kept1 (b : Ref sig .tc)
    (h : ∀ W ∈ ([cond1_W, b1_0_W, b1_1_W, b1_2_W, b1_3_W] : List (List (Ref sig .tc))), b ∉ W)
    (h4 : b ∉ b1_4_W) : ∀ k, at1 m k c (Proc.devRef .tc b) = start1 m c (Proc.devRef .tc b)
  | 0 => rfl
  | k + 1 => by
    rw [show at1 m (k + 1) c = afterL body1I (after cond1 (at1 m k c)) from rfl]
    simp only [afterL_cons, afterL_nil]
    rw [after_of_writes_sub b1_4 _ b1_4_writes h4, through1 _ b h]
    exact kept1 b h h4 k

variable {m c} {z : Fin 128 → ℕ → Fin 50 → ℝ}

theorem inv1 (A : Args m c z) : ∀ k, k ≤ 511 →
    (∀ b : Fin 128, at1 m k c (Proc.devRef .tc main_v65_2) (ix1 b) = BitVec.ofNat 32 (tag (z b (511 - k))).val)
    ∧ (∀ (i : Fin 511) (b : Fin 128), 511 - k ≤ i.val →
        at1 m k c (Proc.devRef .tc main_v65_3) (ix2 i b) = BitVec.ofNat 32 (tag (z b i.val)).val)
  | 0, _ => ⟨fun b => (middle A).2.1 b, fun i b h => by have := i.isLt; omega⟩
  | k + 1, hk => by
    obtain ⟨h2, h3⟩ := inv1 A k (by omega)
    have hc : at1 m k c (Proc.devRef .tc main_v65_1) = fun _ => BitVec.ofNat 32 k := by
      rw [counter1 m c k, iv_word]
    obtain ⟨r2, r3, r4⟩ := body1 (X := at1 m k c) (Z := at1 m (k + 1) c) rfl rfl rfl rfl rfl rfl hk hc (fun b => tag (z b (511 - k))) h2
    have hrow : ∀ b : Fin 128, at1 m k c (Proc.devRef .tc main_v65_0) (ix3 (⟨510 - k, by omega⟩ : Fin 511) b (tag (z b (511 - k))))
        = BitVec.ofNat 32 (tag (z b (510 - k))).val := by
      intro b
      rw [kept1 m c main_v65_0 (by decide +kernel) (by decide +kernel)]
      have := tag_lt (z b (511 - k))
      exact (middle A).1 _ b _ (by omega)
    refine ⟨fun b => ?_, fun i b hi => ?_⟩
    · rw [r2, hrow]
      congr 4
      omega
    · by_cases e : i.val = 510 - k
      · rw [r3 i b e, hrow, e]
      · rw [r4 i b e]
        exact h3 i b (by omega)

/-- The reference's result: at every step the best tag. -/
theorem final_at (A : Args m c z) (b : Fin 128) (s : Fin 512) :
    final m c (Proc.devRef .tc main_v68) (ix2 b s) = BitVec.ofNat 32 (tag (z b s.val)).val := by
  show after ops4 (after cond1 (at1 m 511 c)) (Proc.devRef .tc main_v68) (ix2 b s) = _
  by_cases hs : s.val < 511
  · rw [show s = (⟨(⟨s.val, hs⟩ : Fin 511).val, by omega⟩ : Fin 512) from rfl, o4_row, after_of_writes_sub cond1 _ cond1_writes (by decide +kernel)]
    exact (inv1 A 511 le_rfl).2 _ b (by omega)
  · have e : s = 511 := Fin.ext (show s.val = 511 by have := s.isLt; omega)
    subst e
    rw [o4_last, after_of_writes_sub cond1 _ cond1_writes (by decide +kernel), kept1 m c main_v43 (by decide +kernel) (by decide +kernel)]
    exact (middle A).2.2 b

end Loop

end Cert.ReferenceIdeal.Run

end
-- ==== Proof.Agree.lean ====
/-
The kernel and the reference return the same tags: at every step each of them returns the first greatest of the step's
first forty-eight scores.
-/
module

public import proofs.«01_k».proof.Defs
public import proofs.«01_k».proof.Proof.KernelValue
public import proofs.«01_k».proof.Proof.RefLoop1

@[expose] public section

noncomputable section

namespace Cert.Agree

open Idealize.ShloMosaic Idealize.ShloMosaic.TcCoe Idealize.SL.Sem
open Cert.Inputs Cert.Steps

theorem agree : Cert.algebraic_KernelIdeal_ReferenceIdeal_pre_crf_inputs (hKernelIdeal := Cert.KernelIdeal.Gen.facts)
    (hReferenceIdeal := Cert.ReferenceIdeal.Gen.facts) (hPre_crf_inputs := Cert.Inputs.pre_facts) := by
  intro m g m' g' hpre harg
  refine ⟨fun c => Cert.KernelIdeal.Model.result m c, Cert.KernelIdeal.Model.value_run m g, ?_⟩
  refine (θ_run Cert.ReferenceIdeal.defs _ _).mono (fun r h c => ⟨?_, (h c).2⟩) (Cert.ReferenceIdeal.Run.value_run m' g')
  rw [(h c).1]
  obtain ⟨hmask, htr, hx⟩ := @unpack Cert.Inputs.pre_facts _ _ _ (hpre c)
  obtain ⟨a0, a1, a2⟩ := harg c
  choose y hy hb using hx
  let z : Fin 128 → ℕ → Fin 50 → ℝ := fun b s t => if h : s < 512 then y (ix3 b (⟨s, h⟩ : Fin 512) t) else 0
  have hz : ∀ (b : Fin 128) (s : Fin 512) (t : Fin 50), z b s.val t = y (ix3 b s t) := fun b s t => dif_pos s.isLt
  have A : Cert.ReferenceIdeal.Run.Args m' c z := by
    refine ⟨fun b s t => ?_, fun b s t => ?_, fun j => ?_, fun f t => ?_⟩
    · rw [hz]
      exact (congrFun a0 (ix3 b s t)).trans (hy (ix3 b s t))
    · show |if h : s < 512 then y (ix3 b (⟨s, h⟩ : Fin 512) t) else 0| ≤ 1000
      split
      · exact hb _
      · norm_num
    · exact (congrFun a1 j).trans (hmask j)
    · exact (congrFun a2 (ix2 f t)).trans (htr f t)
  have hk := Cert.KernelIdeal.Model.result_at m c (fun b s t => z b s.val t) fun b s t => by
    show _ = ((z b s.val t : ℝ) : EReal)
    rw [hz]
    exact hy (ix3 b s t)
  funext i
  obtain ⟨b, s, rfl⟩ : ∃ (b : Fin 128) (s : Fin 512), i = ix2 b s :=
    ⟨i 0, i 1, funext fun a => by match a with | ⟨0, _⟩ => rfl | ⟨1, _⟩ => rfl⟩
  exact (Cert.ReferenceIdeal.Run.final_at A b s).trans (hk b s).symm

end Cert.Agree

end
-- ==== Proof.lean ====
/-
The certificate's claims: both programs and the reference leave their arguments alone and end quiescent, and under the
precondition the kernel and the reference return the same tags.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelFrame
public import proofs.«01_k».proof.Proof.SameProgram
public import proofs.«01_k».proof.Proof.RefRun
public import proofs.«01_k».proof.Proof.Agree

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Inputs.pre_facts,
    fun m ρ _ => Cert.SameProgram.frame_claim m ρ,
    fun m ρ _ => Cert.KernelIdeal.Model.frame_claim m ρ,
    fun m ρ _ => Cert.KernelIdeal.Model.frame_claim m ρ,
    fun m ρ _ => Cert.ReferenceIdeal.Run.frame_claim m ρ,
    fun m ρ _ => Cert.ReferenceIdeal.Run.frame_claim m ρ,
    trivial,
    Cert.Agree.agree⟩

end Cert.Proof

end
